-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Moe [hPre_moe_range : Cert.Pre_moe_range.Facts] (m : (ℓ : Loc Cert.Moe.nD Cert.Moe.τ Cert.Moe.sig) → Buf (Elt Bits) ℓ) : Prop :=
  ∀ c : Dev Cert.Moe.nD,
    (Cert.Pre_moe_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6)) (m ((c.tc : Thread Cert.Moe.nD Cert.Moe.τ).loc Cert.Moe.main_arg7)) (m ((c.tc : Thread Cert.Moe.nD Cert.Moe.τ).loc Cert.Moe.main_arg8)) (m ((c.tc : Thread Cert.Moe.nD Cert.Moe.τ).loc Cert.Moe.main_arg9)) (m ((c.tc : Thread Cert.Moe.nD Cert.Moe.τ).loc Cert.Moe.main_arg10)) (m ((c.tc : Thread Cert.Moe.nD Cert.Moe.τ).loc Cert.Moe.main_arg11))) = (fun _ => 1#1)

def Pre_MoeIdeal [hPre_moe_range : Cert.Pre_moe_range.Facts] (m : (ℓ : Loc Cert.MoeIdeal.nD Cert.MoeIdeal.τ Cert.MoeIdeal.sig) → Buf (Elt Ideal) ℓ) : Prop :=
  ∀ c : Dev Cert.MoeIdeal.nD,
    (Cert.Pre_moe_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9)) (m ((c.tc : Thread Cert.MoeIdeal.nD Cert.MoeIdeal.τ).loc Cert.MoeIdeal.main_arg10)) (m ((c.tc : Thread Cert.MoeIdeal.nD Cert.MoeIdeal.τ).loc Cert.MoeIdeal.main_arg11))) = (fun _ => 1#1)

def Pre_MoeIdeal_moe_routed [hPre_moe_routed : Cert.Pre_moe_routed.Facts] (m : (ℓ : Loc Cert.MoeIdeal.nD Cert.MoeIdeal.τ Cert.MoeIdeal.sig) → Buf (Elt Ideal) ℓ) : Prop :=
  ∀ c : Dev Cert.MoeIdeal.nD,
    (Cert.Pre_moe_routed.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9)) (m ((c.tc : Thread Cert.MoeIdeal.nD Cert.MoeIdeal.τ).loc Cert.MoeIdeal.main_arg10)) (m ((c.tc : Thread Cert.MoeIdeal.nD Cert.MoeIdeal.τ).loc Cert.MoeIdeal.main_arg11))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_moe_routed [hPre_moe_routed : Cert.Pre_moe_routed.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_moe_routed.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8)) (m ((c.tc : Thread Cert.MoeRefIdeal.nD Cert.MoeRefIdeal.τ).loc Cert.MoeRefIdeal.main_arg9)) (m ((c.tc : Thread Cert.MoeRefIdeal.nD Cert.MoeRefIdeal.τ).loc Cert.MoeRefIdeal.main_arg10)) (m ((c.tc : Thread Cert.MoeRefIdeal.nD Cert.MoeRefIdeal.τ).loc Cert.MoeRefIdeal.main_arg11))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Moe [hMoe : Cert.Moe.Facts] [hPre_moe_range : Cert.Pre_moe_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8)
      ∧ r.2.mem ((c.tc : Thread Cert.Moe.nD Cert.Moe.τ).loc Cert.Moe.main_arg9) = m ((c.tc : Thread Cert.Moe.nD Cert.Moe.τ).loc Cert.Moe.main_arg9)
      ∧ r.2.mem ((c.tc : Thread Cert.Moe.nD Cert.Moe.τ).loc Cert.Moe.main_arg10) = m ((c.tc : Thread Cert.Moe.nD Cert.Moe.τ).loc Cert.Moe.main_arg10)
      ∧ r.2.mem ((c.tc : Thread Cert.Moe.nD Cert.Moe.τ).loc Cert.Moe.main_arg11) = m ((c.tc : Thread Cert.Moe.nD Cert.Moe.τ).loc Cert.Moe.main_arg11))
      ∧ r.2.sem = fun _ => 0)

def quiescent_MoeIdeal [hMoeIdeal : Cert.MoeIdeal.Facts] [hPre_moe_range : Cert.Pre_moe_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9)
      ∧ r.2.mem ((c.tc : Thread Cert.MoeIdeal.nD Cert.MoeIdeal.τ).loc Cert.MoeIdeal.main_arg10) = m ((c.tc : Thread Cert.MoeIdeal.nD Cert.MoeIdeal.τ).loc Cert.MoeIdeal.main_arg10)
      ∧ r.2.mem ((c.tc : Thread Cert.MoeIdeal.nD Cert.MoeIdeal.τ).loc Cert.MoeIdeal.main_arg11) = m ((c.tc : Thread Cert.MoeIdeal.nD Cert.MoeIdeal.τ).loc Cert.MoeIdeal.main_arg11))
      ∧ r.2.sem = fun _ => 0)

def quiescent_MoeIdeal_pre_moe_routed [hMoeIdeal : Cert.MoeIdeal.Facts] [hPre_moe_routed : Cert.Pre_moe_routed.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_moe_routed m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9)
      ∧ r.2.mem ((c.tc : Thread Cert.MoeIdeal.nD Cert.MoeIdeal.τ).loc Cert.MoeIdeal.main_arg10) = m ((c.tc : Thread Cert.MoeIdeal.nD Cert.MoeIdeal.τ).loc Cert.MoeIdeal.main_arg10)
      ∧ r.2.mem ((c.tc : Thread Cert.MoeIdeal.nD Cert.MoeIdeal.τ).loc Cert.MoeIdeal.main_arg11) = m ((c.tc : Thread Cert.MoeIdeal.nD Cert.MoeIdeal.τ).loc Cert.MoeIdeal.main_arg11))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8)
      ∧ r.2.mem ((c.tc : Thread Cert.MoeRefIdeal.nD Cert.MoeRefIdeal.τ).loc Cert.MoeRefIdeal.main_arg9) = m ((c.tc : Thread Cert.MoeRefIdeal.nD Cert.MoeRefIdeal.τ).loc Cert.MoeRefIdeal.main_arg9)
      ∧ r.2.mem ((c.tc : Thread Cert.MoeRefIdeal.nD Cert.MoeRefIdeal.τ).loc Cert.MoeRefIdeal.main_arg10) = m ((c.tc : Thread Cert.MoeRefIdeal.nD Cert.MoeRefIdeal.τ).loc Cert.MoeRefIdeal.main_arg10)
      ∧ r.2.mem ((c.tc : Thread Cert.MoeRefIdeal.nD Cert.MoeRefIdeal.τ).loc Cert.MoeRefIdeal.main_arg11) = m ((c.tc : Thread Cert.MoeRefIdeal.nD Cert.MoeRefIdeal.τ).loc Cert.MoeRefIdeal.main_arg11))
      ∧ r.2.sem = fun _ => 0)

def quiescent_MoeRefIdeal_pre_moe_routed [hMoeRefIdeal : Cert.MoeRefIdeal.Facts] [hPre_moe_routed : Cert.Pre_moe_routed.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_moe_routed m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8)
      ∧ r.2.mem ((c.tc : Thread Cert.MoeRefIdeal.nD Cert.MoeRefIdeal.τ).loc Cert.MoeRefIdeal.main_arg9) = m ((c.tc : Thread Cert.MoeRefIdeal.nD Cert.MoeRefIdeal.τ).loc Cert.MoeRefIdeal.main_arg9)
      ∧ r.2.mem ((c.tc : Thread Cert.MoeRefIdeal.nD Cert.MoeRefIdeal.τ).loc Cert.MoeRefIdeal.main_arg10) = m ((c.tc : Thread Cert.MoeRefIdeal.nD Cert.MoeRefIdeal.τ).loc Cert.MoeRefIdeal.main_arg10)
      ∧ r.2.mem ((c.tc : Thread Cert.MoeRefIdeal.nD Cert.MoeRefIdeal.τ).loc Cert.MoeRefIdeal.main_arg11) = m ((c.tc : Thread Cert.MoeRefIdeal.nD Cert.MoeRefIdeal.τ).loc Cert.MoeRefIdeal.main_arg11))
      ∧ r.2.sem = fun _ => 0)

def preserves_Attn_AttnIdeal : Prop :=
  IdealRules.named_const.Statement Cert.AttnIdeal.κ "scale" .f32 0x3E38AA3B#32 (((8 * (Real.log 2))⁻¹ : ℝ) : EReal)

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v5)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v5) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v31) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Moe_MoeIdeal : Prop :=
  True

def algebraic_MoeIdeal_MoeRefIdeal_pre_moe_routed [hMoeIdeal : Cert.MoeIdeal.Facts] [hMoeRefIdeal : Cert.MoeRefIdeal.Facts] [hPre_moe_routed : Cert.Pre_moe_routed.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_moe_routed m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)
      ∧ m' ((c.tc : Thread Cert.MoeRefIdeal.nD Cert.MoeRefIdeal.τ).loc Cert.MoeRefIdeal.main_arg8) = m ((c.tc : Thread Cert.MoeIdeal.nD Cert.MoeIdeal.τ).loc Cert.MoeIdeal.main_arg8)
      ∧ m' ((c.tc : Thread Cert.MoeRefIdeal.nD Cert.MoeRefIdeal.τ).loc Cert.MoeRefIdeal.main_arg9) = m ((c.tc : Thread Cert.MoeIdeal.nD Cert.MoeIdeal.τ).loc Cert.MoeIdeal.main_arg9)
      ∧ m' ((c.tc : Thread Cert.MoeRefIdeal.nD Cert.MoeRefIdeal.τ).loc Cert.MoeRefIdeal.main_arg10) = m ((c.tc : Thread Cert.MoeIdeal.nD Cert.MoeIdeal.τ).loc Cert.MoeIdeal.main_arg10)
      ∧ m' ((c.tc : Thread Cert.MoeRefIdeal.nD Cert.MoeRefIdeal.τ).loc Cert.MoeRefIdeal.main_arg11) = m ((c.tc : Thread Cert.MoeIdeal.nD Cert.MoeIdeal.τ).loc Cert.MoeIdeal.main_arg11)) →
    ∃ (v0 : (c : Dev Cert.MoeIdeal.nD) → Buf (Elt Ideal) ((c.tc : Thread Cert.MoeIdeal.nD Cert.MoeIdeal.τ).loc Cert.MoeIdeal.main_v10)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v10) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
          ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9)
          ∧ r.2.mem ((c.tc : Thread Cert.MoeIdeal.nD Cert.MoeIdeal.τ).loc Cert.MoeIdeal.main_arg10) = m ((c.tc : Thread Cert.MoeIdeal.nD Cert.MoeIdeal.τ).loc Cert.MoeIdeal.main_arg10)
          ∧ r.2.mem ((c.tc : Thread Cert.MoeIdeal.nD Cert.MoeIdeal.τ).loc Cert.MoeIdeal.main_arg11) = m ((c.tc : Thread Cert.MoeIdeal.nD Cert.MoeIdeal.τ).loc Cert.MoeIdeal.main_arg11))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v109) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7)
          ∧ r.2.mem ((c.tc : Thread Cert.MoeRefIdeal.nD Cert.MoeRefIdeal.τ).loc Cert.MoeRefIdeal.main_arg8) = m' ((c.tc : Thread Cert.MoeRefIdeal.nD Cert.MoeRefIdeal.τ).loc Cert.MoeRefIdeal.main_arg8)
          ∧ r.2.mem ((c.tc : Thread Cert.MoeRefIdeal.nD Cert.MoeRefIdeal.τ).loc Cert.MoeRefIdeal.main_arg9) = m' ((c.tc : Thread Cert.MoeRefIdeal.nD Cert.MoeRefIdeal.τ).loc Cert.MoeRefIdeal.main_arg9)
          ∧ r.2.mem ((c.tc : Thread Cert.MoeRefIdeal.nD Cert.MoeRefIdeal.τ).loc Cert.MoeRefIdeal.main_arg10) = m' ((c.tc : Thread Cert.MoeRefIdeal.nD Cert.MoeRefIdeal.τ).loc Cert.MoeRefIdeal.main_arg10)
          ∧ r.2.mem ((c.tc : Thread Cert.MoeRefIdeal.nD Cert.MoeRefIdeal.τ).loc Cert.MoeRefIdeal.main_arg11) = m' ((c.tc : Thread Cert.MoeRefIdeal.nD Cert.MoeRefIdeal.τ).loc Cert.MoeRefIdeal.main_arg11))

def Claim : Prop :=
  ∃ (hAttn : Cert.Attn.Facts) (hAttnIdeal : Cert.AttnIdeal.Facts) (hAttnRefIdeal : Cert.AttnRefIdeal.Facts) (hMoe : Cert.Moe.Facts) (hMoeIdeal : Cert.MoeIdeal.Facts) (hMoeRefIdeal : Cert.MoeRefIdeal.Facts) (hPre_attn_finite : Cert.Pre_attn_finite.Facts) (hPre_moe_range : Cert.Pre_moe_range.Facts) (hPre_moe_routed : Cert.Pre_moe_routed.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Moe (hMoe := hMoe) (hPre_moe_range := hPre_moe_range)
    ∧ quiescent_MoeIdeal (hMoeIdeal := hMoeIdeal) (hPre_moe_range := hPre_moe_range)
    ∧ quiescent_MoeIdeal_pre_moe_routed (hMoeIdeal := hMoeIdeal) (hPre_moe_routed := hPre_moe_routed)
    ∧ quiescent_MoeRefIdeal (hMoeRefIdeal := hMoeRefIdeal)
    ∧ quiescent_MoeRefIdeal_pre_moe_routed (hMoeRefIdeal := hMoeRefIdeal) (hPre_moe_routed := hPre_moe_routed)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Moe_MoeIdeal
    ∧ algebraic_MoeIdeal_MoeRefIdeal_pre_moe_routed (hMoeIdeal := hMoeIdeal) (hMoeRefIdeal := hMoeRefIdeal) (hPre_moe_routed := hPre_moe_routed)
-- ==== Pre_attn_finite.lean ====
abbrev S8x8x4096x64 : Shape := ⟨4, ![8, 8, 4096, 64]⟩
abbrev S8x2x4096x64 : Shape := ⟨4, ![8, 2, 4096, 64]⟩
abbrev S1x512 : Shape := ⟨2, ![1, 512]⟩
abbrev S_ : Shape := ⟨0, ![]⟩

class Facts : Prop where
  bcast_S_S8x8x4096x64 : S_.BroadcastsInDim S8x8x4096x64 (![] : Fin 0 → Fin S8x8x4096x64.rank)
  reducesTo_S8x8x4096x64_S_d0_1_2_3 : S8x8x4096x64.ReducesTo [0, 1, 2, 3] S_
  h_S_ : 0 < S_.numel
  bcast_S_S8x2x4096x64 : S_.BroadcastsInDim S8x2x4096x64 (![] : Fin 0 → Fin S8x2x4096x64.rank)
  reducesTo_S8x2x4096x64_S_d0_1_2_3 : S8x2x4096x64.ReducesTo [0, 1, 2, 3] S_

variable [Facts]

def fn {F : FTy → Type} [FloatOps F] (main_arg0 : FVec F S8x8x4096x64 .f32) (main_arg1 : FVec F S8x2x4096x64 .f32) (main_arg2 : FVec F S8x2x4096x64 .f32) (main_arg3 : FVec F S1x512 .f32) : IVec S_ 1 :=
  let main_v0 : FVec F S8x8x4096x64 .f32 := Host.absf main_arg0
  let main_cst : FVec F S_ .f32 := constant S_ .f32 0x7F800000#32
  let main_v1 : FVec F S8x8x4096x64 .f32 := broadcastInDim S8x8x4096x64 ![] bcast_S_S8x8x4096x64 main_cst
  let main_v2 : IVec S8x8x4096x64 1 := cmpf .olt main_v0 main_v1
  let main_c : IVec S_ 1 := constantI S_ 1 1#1
  let main_v3 : IVec S_ 1 := (fun x v => Host.reduce IntOp.andi x v reducesTo_S8x8x4096x64_S_d0_1_2_3 h_S_) main_v2 main_c
  let main_v4 : FVec F S8x2x4096x64 .f32 := Host.absf main_arg1
  let main_cst_0 : FVec F S_ .f32 := constant S_ .f32 0x7F800000#32
  let main_v5 : FVec F S8x2x4096x64 .f32 := broadcastInDim S8x2x4096x64 ![] bcast_S_S8x2x4096x64 main_cst_0
  let main_v6 : IVec S8x2x4096x64 1 := cmpf .olt main_v4 main_v5
  let main_c_1 : IVec S_ 1 := constantI S_ 1 1#1
  let main_v7 : IVec S_ 1 := (fun x v => Host.reduce IntOp.andi x v reducesTo_S8x2x4096x64_S_d0_1_2_3 h_S_) main_v6 main_c_1
  let main_v8 : IVec S_ 1 := andi main_v3 main_v7
  let main_v9 : FVec F S8x2x4096x64 .f32 := Host.absf main_arg2
  let main_cst_2 : FVec F S_ .f32 := constant S_ .f32 0x7F800000#32
  let main_v10 : FVec F S8x2x4096x64 .f32 := broadcastInDim S8x2x4096x64 ![] bcast_S_S8x2x4096x64 main_cst_2
  let main_v11 : IVec S8x2x4096x64 1 := cmpf .olt main_v9 main_v10
  let main_c_3 : IVec S_ 1 := constantI S_ 1 1#1
  let main_v12 : IVec S_ 1 := (fun x v => Host.reduce IntOp.andi x v reducesTo_S8x2x4096x64_S_d0_1_2_3 h_S_) main_v11 main_c_3
  let main_v13 : IVec S_ 1 := andi main_v8 main_v12
  main_v13
-- ==== Pre_moe_range.lean ====
abbrev S152 : Shape := ⟨1, ![152]⟩
abbrev S311296x128 : Shape := ⟨2, ![311296, 128]⟩
abbrev S1x1024 : Shape := ⟨2, ![1, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x512 : Shape := ⟨3, ![16, 1024, 512]⟩
abbrev S16x512x1024 : Shape := ⟨3, ![16, 512, 1024]⟩
abbrev S_ : Shape := ⟨0, ![]⟩

class Facts : Prop where
  bcast_S_S152 : S_.BroadcastsInDim S152 (![] : Fin 0 → Fin S152.rank)
  reducesTo_S152_S_d0 : S152.ReducesTo [0] S_
  h_S_ : 0 < S_.numel

variable [Facts]

def fn_part1 {F : FTy → Type} [FloatOps F] (main_arg2 : IVec S152 32) (main_v14 : IVec S_ 1) (main_c_7 : IVec S_ 32) : IVec S_ 1 :=
  let main_v15 : IVec S152 32 := broadcastInDim S152 ![] bcast_S_S152 main_c_7
  let main_v16 : IVec S152 1 := cmpi .sge main_arg2 main_v15
  let main_c_8 : IVec S_ 1 := constantI S_ 1 1#1
  let main_v17 : IVec S_ 1 := (fun x v => Host.reduce IntOp.andi x v reducesTo_S152_S_d0 h_S_) main_v16 main_c_8
  let main_v18 : IVec S_ 1 := andi main_v14 main_v17
  main_v18

def fn {F : FTy → Type} [FloatOps F] (main_arg0 : IVec S152 32) (main_arg1 : IVec S152 32) (main_arg2 : IVec S152 32) (main_arg3 : FVec F S311296x128 .f32) (main_arg4 : FVec F S1x1024 .f32) (main_arg5 : FVec F S1024x4 .f32) (main_arg6 : FVec F S4 .f32) (main_arg7 : FVec F S1024x16 .f32) (main_arg8 : FVec F S16 .f32) (main_arg9 : FVec F S16x1024x512 .f32) (main_arg10 : FVec F S16x1024x512 .f32) (main_arg11 : FVec F S16x512x1024 .f32) : IVec S_ 1 :=
  let main_c : IVec S_ 32 := constantI S_ 32 0#32
  let main_v0 : IVec S152 32 := broadcastInDim S152 ![] bcast_S_S152 main_c
  let main_v1 : IVec S152 1 := cmpi .sge main_arg0 main_v0
  let main_c_0 : IVec S_ 1 := constantI S_ 1 1#1
  let main_v2 : IVec S_ 1 := (fun x v => Host.reduce IntOp.andi x v reducesTo_S152_S_d0 h_S_) main_v1 main_c_0
  let main_c_1 : IVec S_ 32 := constantI S_ 32 16#32
  let main_v3 : IVec S152 32 := broadcastInDim S152 ![] bcast_S_S152 main_c_1
  let main_v4 : IVec S152 1 := cmpi .slt main_arg0 main_v3
  let main_c_2 : IVec S_ 1 := constantI S_ 1 1#1
  let main_v5 : IVec S_ 1 := (fun x v => Host.reduce IntOp.andi x v reducesTo_S152_S_d0 h_S_) main_v4 main_c_2
  let main_v6 : IVec S_ 1 := andi main_v2 main_v5
  let main_c_3 : IVec S_ 32 := constantI S_ 32 0#32
  let main_v7 : IVec S152 32 := broadcastInDim S152 ![] bcast_S_S152 main_c_3
  let main_v8 : IVec S152 1 := cmpi .sge main_arg1 main_v7
  let main_c_4 : IVec S_ 1 := constantI S_ 1 1#1
  let main_v9 : IVec S_ 1 := (fun x v => Host.reduce IntOp.andi x v reducesTo_S152_S_d0 h_S_) main_v8 main_c_4
  let main_v10 : IVec S_ 1 := andi main_v6 main_v9
  let main_c_5 : IVec S_ 32 := constantI S_ 32 16#32
  let main_v11 : IVec S152 32 := broadcastInDim S152 ![] bcast_S_S152 main_c_5
  let main_v12 : IVec S152 1 := cmpi .slt main_arg1 main_v11
  let main_c_6 : IVec S_ 1 := constantI S_ 1 1#1
  let main_v13 : IVec S_ 1 := (fun x v => Host.reduce IntOp.andi x v reducesTo_S152_S_d0 h_S_) main_v12 main_c_6
  let main_v14 : IVec S_ 1 := andi main_v10 main_v13
  let main_c_7 : IVec S_ 32 := constantI S_ 32 0#32
  fn_part1 (F := F) main_arg2 main_v14 main_c_7
-- ==== Pre_moe_routed.lean ====
abbrev S152 : Shape := ⟨1, ![152]⟩
abbrev S311296x128 : Shape := ⟨2, ![311296, 128]⟩
abbrev S1x1024 : Shape := ⟨2, ![1, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x512 : Shape := ⟨3, ![16, 1024, 512]⟩
abbrev S16x512x1024 : Shape := ⟨3, ![16, 512, 1024]⟩
abbrev S_ : Shape := ⟨0, ![]⟩

class Facts : Prop where
  bcast_S_S152 : S_.BroadcastsInDim S152 (![] : Fin 0 → Fin S152.rank)
  reducesTo_S152_S_d0 : S152.ReducesTo [0] S_
  h_S_ : 0 < S_.numel
  bcast_S_S311296x128 : S_.BroadcastsInDim S311296x128 (![] : Fin 0 → Fin S311296x128.rank)
  reducesTo_S311296x128_S_d0_1 : S311296x128.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg8 : FVec F S16 .f32) (main_v25 : IVec S_ 1) (main_v44 : IVec S_ 1) (main_v48 : IVec S_ 1) : IVec S_ 1 :=
  let main_v49 : IVec S_ 1 := andi main_v44 main_v48
  let main_v50 : FVec F S16 .f32 := Host.absf main_arg8
  let main_cst_21 : FVec F S_ .f32 := constant S_ .f32 0x7F800000#32
  let main_v51 : FVec F S16 .f32 := broadcastInDim S16 ![] bcast_S_S16 main_cst_21
  let main_v52 : IVec S16 1 := cmpf .olt main_v50 main_v51
  let main_c_22 : IVec S_ 1 := constantI S_ 1 1#1
  let main_v53 : IVec S_ 1 := (fun x v => Host.reduce IntOp.andi x v reducesTo_S16_S_d0 h_S_) main_v52 main_c_22
  let main_v54 : IVec S_ 1 := andi main_v49 main_v53
  let main_v55 : IVec S_ 1 := andi main_v25 main_v54
  main_v55

def fn_part2 {F : FTy → Type} [FloatOps F] (main_arg5 : FVec F S1024x4 .f32) (main_arg6 : FVec F S4 .f32) (main_arg7 : FVec F S1024x16 .f32) (main_arg8 : FVec F S16 .f32) (main_v25 : IVec S_ 1) (main_v29 : IVec S_ 1) (main_v30 : FVec F S1x1024 .f32) (main_v31 : FVec F S1x1024 .f32) : IVec S_ 1 :=
  let main_v32 : IVec S1x1024 1 := cmpf .olt main_v30 main_v31
  let main_c_14 : IVec S_ 1 := constantI S_ 1 1#1
  let main_v33 : IVec S_ 1 := (fun x v => Host.reduce IntOp.andi x v reducesTo_S1x1024_S_d0_1 h_S_) main_v32 main_c_14
  let main_v34 : IVec S_ 1 := andi main_v29 main_v33
  let main_v35 : FVec F S1024x4 .f32 := Host.absf main_arg5
  let main_cst_15 : FVec F S_ .f32 := constant S_ .f32 0x7F800000#32
  let main_v36 : FVec F S1024x4 .f32 := broadcastInDim S1024x4 ![] bcast_S_S1024x4 main_cst_15
  let main_v37 : IVec S1024x4 1 := cmpf .olt main_v35 main_v36
  let main_c_16 : IVec S_ 1 := constantI S_ 1 1#1
  let main_v38 : IVec S_ 1 := (fun x v => Host.reduce IntOp.andi x v reducesTo_S1024x4_S_d0_1 h_S_) main_v37 main_c_16
  let main_v39 : IVec S_ 1 := andi main_v34 main_v38
  let main_v40 : FVec F S4 .f32 := Host.absf main_arg6
  let main_cst_17 : FVec F S_ .f32 := constant S_ .f32 0x7F800000#32
  let main_v41 : FVec F S4 .f32 := broadcastInDim S4 ![] bcast_S_S4 main_cst_17
  let main_v42 : IVec S4 1 := cmpf .olt main_v40 main_v41
  let main_c_18 : IVec S_ 1 := constantI S_ 1 1#1
  let main_v43 : IVec S_ 1 := (fun x v => Host.reduce IntOp.andi x v reducesTo_S4_S_d0 h_S_) main_v42 main_c_18
  let main_v44 : IVec S_ 1 := andi main_v39 main_v43
  let main_v45 : FVec F S1024x16 .f32 := Host.absf main_arg7
  let main_cst_19 : FVec F S_ .f32 := constant S_ .f32 0x7F800000#32
  let main_v46 : FVec F S1024x16 .f32 := broadcastInDim S1024x16 ![] bcast_S_S1024x16 main_cst_19
  let main_v47 : IVec S1024x16 1 := cmpf .olt main_v45 main_v46
  let main_c_20 : IVec S_ 1 := constantI S_ 1 1#1
  let main_v48 : IVec S_ 1 := (fun x v => Host.reduce IntOp.andi x v reducesTo_S1024x16_S_d0_1 h_S_) main_v47 main_c_20
  fn_part3 (F := F) main_arg8 main_v25 main_v44 main_v48

def fn_part1 {F : FTy → Type} [FloatOps F] (main_arg0 : IVec S152 32) (main_arg1 : IVec S152 32) (main_arg2 : IVec S152 32) (main_arg3 : FVec F S311296x128 .f32) (main_arg4 : FVec F S1x1024 .f32) (main_arg5 : FVec F S1024x4 .f32) (main_arg6 : FVec F S4 .f32) (main_arg7 : FVec F S1024x16 .f32) (main_arg8 : FVec F S16 .f32) (main_v14 : IVec S_ 1) (main_c_7 : IVec S_ 32) : IVec S_ 1 :=
  let main_v15 : IVec S152 32 := broadcastInDim S152 ![] bcast_S_S152 main_c_7
  let main_v16 : IVec S152 32 := Host.divsi main_arg0 main_v15
  let main_c_8 : IVec S_ 32 := constantI S_ 32 4#32
  let main_v17 : IVec S152 32 := broadcastInDim S152 ![] bcast_S_S152 main_c_8
  let main_v18 : IVec S152 32 := Host.divsi main_arg1 main_v17
  let main_v19 : IVec S152 1 := cmpi .eq main_v16 main_v18
  let main_c_9 : IVec S_ 1 := constantI S_ 1 1#1
  let main_v20 : IVec S_ 1 := (fun x v => Host.reduce IntOp.andi x v reducesTo_S152_S_d0 h_S_) main_v19 main_c_9
  let main_v21 : IVec S_ 1 := andi main_v14 main_v20
  let main_c_10 : IVec S_ 32 := constantI S_ 32 0#32
  let main_v22 : IVec S152 32 := broadcastInDim S152 ![] bcast_S_S152 main_c_10
  let main_v23 : IVec S152 1 := cmpi .sge main_arg2 main_v22
  let main_c_11 : IVec S_ 1 := constantI S_ 1 1#1
  let main_v24 : IVec S_ 1 := (fun x v => Host.reduce IntOp.andi x v reducesTo_S152_S_d0 h_S_) main_v23 main_c_11
  let main_v25 : IVec S_ 1 := andi main_v21 main_v24
  let main_v26 : FVec F S311296x128 .f32 := Host.absf main_arg3
  let main_cst : FVec F S_ .f32 := constant S_ .f32 0x7F800000#32
  let main_v27 : FVec F S311296x128 .f32 := broadcastInDim S311296x128 ![] bcast_S_S311296x128 main_cst
  let main_v28 : IVec S311296x128 1 := cmpf .olt main_v26 main_v27
  let main_c_12 : IVec S_ 1 := constantI S_ 1 1#1
  let main_v29 : IVec S_ 1 := (fun x v => Host.reduce IntOp.andi x v reducesTo_S311296x128_S_d0_1 h_S_) main_v28 main_c_12
  let main_v30 : FVec F S1x1024 .f32 := Host.absf main_arg4
  let main_cst_13 : FVec F S_ .f32 := constant S_ .f32 0x7F800000#32
  let main_v31 : FVec F S1x1024 .f32 := broadcastInDim S1x1024 ![] bcast_S_S1x1024 main_cst_13
  fn_part2 (F := F) main_arg5 main_arg6 main_arg7 main_arg8 main_v25 main_v29 main_v30 main_v31

def fn {F : FTy → Type} [FloatOps F] (main_arg0 : IVec S152 32) (main_arg1 : IVec S152 32) (main_arg2 : IVec S152 32) (main_arg3 : FVec F S311296x128 .f32) (main_arg4 : FVec F S1x1024 .f32) (main_arg5 : FVec F S1024x4 .f32) (main_arg6 : FVec F S4 .f32) (main_arg7 : FVec F S1024x16 .f32) (main_arg8 : FVec F S16 .f32) (main_arg9 : FVec F S16x1024x512 .f32) (main_arg10 : FVec F S16x1024x512 .f32) (main_arg11 : FVec F S16x512x1024 .f32) : IVec S_ 1 :=
  let main_c : IVec S_ 32 := constantI S_ 32 0#32
  let main_v0 : IVec S152 32 := broadcastInDim S152 ![] bcast_S_S152 main_c
  let main_v1 : IVec S152 1 := cmpi .sge main_arg0 main_v0
  let main_c_0 : IVec S_ 1 := constantI S_ 1 1#1
  let main_v2 : IVec S_ 1 := (fun x v => Host.reduce IntOp.andi x v reducesTo_S152_S_d0 h_S_) main_v1 main_c_0
  let main_c_1 : IVec S_ 32 := constantI S_ 32 16#32
  let main_v3 : IVec S152 32 := broadcastInDim S152 ![] bcast_S_S152 main_c_1
  let main_v4 : IVec S152 1 := cmpi .slt main_arg0 main_v3
  let main_c_2 : IVec S_ 1 := constantI S_ 1 1#1
  let main_v5 : IVec S_ 1 := (fun x v => Host.reduce IntOp.andi x v reducesTo_S152_S_d0 h_S_) main_v4 main_c_2
  let main_v6 : IVec S_ 1 := andi main_v2 main_v5
  let main_c_3 : IVec S_ 32 := constantI S_ 32 0#32
  let main_v7 : IVec S152 32 := broadcastInDim S152 ![] bcast_S_S152 main_c_3
  let main_v8 : IVec S152 1 := cmpi .sge main_arg1 main_v7
  let main_c_4 : IVec S_ 1 := constantI S_ 1 1#1
  let main_v9 : IVec S_ 1 := (fun x v => Host.reduce IntOp.andi x v reducesTo_S152_S_d0 h_S_) main_v8 main_c_4
  let main_v10 : IVec S_ 1 := andi main_v6 main_v9
  let main_c_5 : IVec S_ 32 := constantI S_ 32 16#32
  let main_v11 : IVec S152 32 := broadcastInDim S152 ![] bcast_S_S152 main_c_5
  let main_v12 : IVec S152 1 := cmpi .slt main_arg1 main_v11
  let main_c_6 : IVec S_ 1 := constantI S_ 1 1#1
  let main_v13 : IVec S_ 1 := (fun x v => Host.reduce IntOp.andi x v reducesTo_S152_S_d0 h_S_) main_v12 main_c_6
  let main_v14 : IVec S_ 1 := andi main_v10 main_v13
  let main_c_7 : IVec S_ 32 := constantI S_ 32 4#32
  fn_part1 (F := F) main_arg0 main_arg1 main_arg2 main_arg3 main_arg4 main_arg5 main_arg6 main_arg7 main_arg8 main_v14 main_c_7
-- ==== Attn.lean ====
abbrev S8x8x4096x64 : Shape := ⟨4, ![8, 8, 4096, 64]⟩
abbrev S8x2x4096x64 : Shape := ⟨4, ![8, 2, 4096, 64]⟩
abbrev S1x512 : Shape := ⟨2, ![1, 512]⟩
abbrev S128x256 : Shape := ⟨2, ![128, 256]⟩
abbrev S_ : Shape := ⟨0, ![]⟩
abbrev S8x2x4096x1 : Shape := ⟨4, ![8, 2, 4096, 1]⟩
abbrev S8x2x4096x63 : Shape := ⟨4, ![8, 2, 4096, 63]⟩
abbrev S8x2x4096x128 : Shape := ⟨4, ![8, 2, 4096, 128]⟩
abbrev S8x4096x512 : Shape := ⟨3, ![8, 4096, 512]⟩
abbrev S1x4x512x64 : Shape := ⟨4, ![1, 4, 512, 64]⟩
abbrev S1x1x4096x64 : Shape := ⟨4, ![1, 1, 4096, 64]⟩
abbrev S1x1x4096x128 : Shape := ⟨4, ![1, 1, 4096, 128]⟩
abbrev S1x256 : Shape := ⟨2, ![1, 256]⟩
abbrev S1x512x256 : Shape := ⟨3, ![1, 512, 256]⟩
abbrev S4x512x64 : Shape := ⟨3, ![4, 512, 64]⟩
abbrev S2048x64 : Shape := ⟨2, ![2048, 64]⟩
abbrev S2048x1 : Shape := ⟨2, ![2048, 1]⟩
abbrev S2048x128 : Shape := ⟨2, ![2048, 128]⟩
abbrev S1x1x512x64 : Shape := ⟨4, ![1, 1, 512, 64]⟩
abbrev S512x64 : Shape := ⟨2, ![512, 64]⟩
abbrev S2048x512 : Shape := ⟨2, ![2048, 512]⟩
abbrev S2048 : Shape := ⟨1, ![2048]⟩
abbrev S1x1x512x128 : Shape := ⟨4, ![1, 1, 512, 128]⟩
abbrev S512x128 : Shape := ⟨2, ![512, 128]⟩
abbrev S128x128 : Shape := ⟨2, ![128, 128]⟩
abbrev S512x256 : Shape := ⟨2, ![512, 256]⟩

abbrev nBuf : Space → Nat
  | .hbm => 13
  | .vmem => 11
  | .smem => 0
  | _ => 0

abbrev bufTy : (tb : Table) → Fin (tcTables nBuf tb) → BufTy
  | .hbm, ⟨0, _⟩ => ⟨S8x8x4096x64, .f32⟩
  | .hbm, ⟨1, _⟩ => ⟨S8x2x4096x64, .f32⟩
  | .hbm, ⟨2, _⟩ => ⟨S8x2x4096x64, .f32⟩
  | .hbm, ⟨3, _⟩ => ⟨S1x512, .f32⟩
  | .hbm, ⟨4, _⟩ => ⟨S128x256, .bf16⟩
  | .hbm, ⟨5, _⟩ => ⟨S_, .f32⟩
  | .hbm, ⟨6, _⟩ => ⟨S8x2x4096x1, .f32⟩
  | .hbm, ⟨7, _⟩ => ⟨S_, .f32⟩
  | .hbm, ⟨8, _⟩ => ⟨S8x2x4096x63, .f32⟩
  | .hbm, ⟨9, _⟩ => ⟨S8x2x4096x128, .f32⟩
  | .hbm, ⟨10, _⟩ => ⟨S8x2x4096x128, .bf16⟩
  | .hbm, ⟨11, _⟩ => ⟨S8x2x4096x64, .bf16⟩
  | .hbm, ⟨12, _⟩ => ⟨S8x4096x512, .bf16⟩
  | .local _ .vmem, ⟨0, _⟩ => ⟨S1x4x512x64, .f32⟩
  | .local _ .vmem, ⟨1, _⟩ => ⟨S1x4x512x64, .f32⟩
  | .local _ .vmem, ⟨2, _⟩ => ⟨S1x1x4096x64, .bf16⟩
  | .local _ .vmem, ⟨3, _⟩ => ⟨S1x1x4096x64, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S1x256, .f32⟩
  | .local _ .vmem, ⟨7, _⟩ => ⟨S1x256, .f32⟩
  | .local _ .vmem, ⟨8, _⟩ => ⟨S128x256, .bf16⟩
  | .local _ .vmem, ⟨9, _⟩ => ⟨S1x512x256, .bf16⟩
  | .local _ .vmem, ⟨10, _⟩ => ⟨S1x512x256, .bf16⟩
  | _, _ => ⟨S8x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnIdeal.lean ====
variable {F : FTy → Type} [FloatOps F] [Named F]
def κ : String → Option EReal := fun
  | "scale" => some (((8 * (Real.log 2))⁻¹ : ℝ) : EReal)
  | _ => none
-- ==== AttnRefIdeal.lean ====
abbrev S8x8x4096x64 : Shape := ⟨4, ![8, 8, 4096, 64]⟩
abbrev S8x2x4096x64 : Shape := ⟨4, ![8, 2, 4096, 64]⟩
abbrev S1x512 : Shape := ⟨2, ![1, 512]⟩
abbrev S8x2x4x4096x64 : Shape := ⟨5, ![8, 2, 4, 4096, 64]⟩
abbrev S8x2x4x4096x4096 : Shape := ⟨5, ![8, 2, 4, 4096, 4096]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x4096x2x4x64 : Shape := ⟨5, ![8, 4096, 2, 4, 64]⟩
abbrev S8x4096x512 : Shape := ⟨3, ![8, 4096, 512]⟩
abbrev S1x1x512 : Shape := ⟨3, ![1, 1, 512]⟩

abbrev nBuf : Space → Nat
  | .hbm => 43
  | .vmem => 0
  | .smem => 0
  | _ => 0

abbrev bufTy : (tb : Table) → Fin (tcTables nBuf tb) → BufTy
  | .hbm, ⟨0, _⟩ => ⟨S8x8x4096x64, .f32⟩
  | .hbm, ⟨1, _⟩ => ⟨S8x2x4096x64, .f32⟩
  | .hbm, ⟨2, _⟩ => ⟨S8x2x4096x64, .f32⟩
  | .hbm, ⟨3, _⟩ => ⟨S1x512, .f32⟩
  | .hbm, ⟨4, _⟩ => ⟨S8x2x4x4096x64, .f32⟩
  | .hbm, ⟨5, _⟩ => ⟨S8x2x4x4096x4096, .f32⟩
  | .hbm, ⟨6, _⟩ => ⟨S_, .f32⟩
  | .hbm, ⟨7, _⟩ => ⟨S8x2x4x4096x4096, .f32⟩
  | .hbm, ⟨8, _⟩ => ⟨S8x2x4x4096x4096, .f32⟩
  | .hbm, ⟨9, _⟩ => ⟨S_, .f32⟩
  | .hbm, ⟨10, _⟩ => ⟨S8x2x4x4096, .f32⟩
  | .hbm, ⟨11, _⟩ => ⟨S_, .f32⟩
  | .hbm, ⟨12, _⟩ => ⟨S8x2x4x4096, .f32⟩
  | .hbm, ⟨13, _⟩ => ⟨S8x2x4x4096, .f32⟩
  | .hbm, ⟨14, _⟩ => ⟨S8x2x4x4096x1, .f32⟩
  | .hbm, ⟨15, _⟩ => ⟨S8x2x4x4096x4096, .f32⟩
  | .hbm, ⟨16, _⟩ => ⟨S8x2x4x4096x4096, .f32⟩
  | .hbm, ⟨17, _⟩ => ⟨S8x2x4x4096x4096, .f32⟩
  | .hbm, ⟨18, _⟩ => ⟨S_, .f32⟩
  | .hbm, ⟨19, _⟩ => ⟨S8x2x4x4096, .f32⟩
  | .hbm, ⟨20, _⟩ => ⟨S8x2x4x4096x1, .f32⟩
  | .hbm, ⟨21, _⟩ => ⟨S8x2x4x4096x4096, .f32⟩
  | .hbm, ⟨22, _⟩ => ⟨S8x2x4x4096x4096, .f32⟩
  | .hbm, ⟨23, _⟩ => ⟨S8x2x4x4096x64, .f32⟩
  | .hbm, ⟨24, _⟩ => ⟨S8x2x4x4096x64, .f32⟩
  | .hbm, ⟨25, _⟩ => ⟨S_, .f32⟩
  | .hbm, ⟨26, _⟩ => ⟨S8x2x4x4096, .f32⟩
  | .hbm, ⟨27, _⟩ => ⟨S8x2x4x4096x1, .f32⟩
  | .hbm, ⟨28, _⟩ => ⟨S_, .f32⟩
  | .hbm, ⟨29, _⟩ => ⟨S8x2x4x4096x1, .f32⟩
  | .hbm, ⟨30, _⟩ => ⟨S8x2x4x4096x1, .f32⟩
  | .hbm, ⟨31, _⟩ => ⟨S_, .f32⟩
  | .hbm, ⟨32, _⟩ => ⟨S8x2x4x4096x1, .f32⟩
  | .hbm, ⟨33, _⟩ => ⟨S8x2x4x4096x1, .f32⟩
  | .hbm, ⟨34, _⟩ => ⟨S8x2x4x4096x1, .f32⟩
  | .hbm, ⟨35, _⟩ => ⟨S8x2x4x4096x64, .f32⟩
  | .hbm, ⟨36, _⟩ => ⟨S8x2x4x4096x64, .f32⟩
  | .hbm, ⟨37, _⟩ => ⟨S8x4096x2x4x64, .f32⟩
  | .hbm, ⟨38, _⟩ => ⟨S8x4096x512, .f32⟩
  | .hbm, ⟨39, _⟩ => ⟨S1x1x512, .f32⟩
  | .hbm, ⟨40, _⟩ => ⟨S8x4096x512, .f32⟩
  | .hbm, ⟨41, _⟩ => ⟨S8x4096x512, .f32⟩
  | .hbm, ⟨42, _⟩ => ⟨S8x4096x512, .bf16⟩
  | _, _ => ⟨S8x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Moe.lean ====
abbrev S152 : Shape := ⟨1, ![152]⟩
abbrev S311296x128 : Shape := ⟨2, ![311296, 128]⟩
abbrev S1x1024 : Shape := ⟨2, ![1, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x512 : Shape := ⟨3, ![16, 1024, 512]⟩
abbrev S16x512x1024 : Shape := ⟨3, ![16, 512, 1024]⟩
abbrev S1024x20 : Shape := ⟨2, ![1024, 20]⟩
abbrev S20x1024 : Shape := ⟨2, ![20, 1024]⟩
abbrev S_ : Shape := ⟨0, ![]⟩
abbrev S32x1024 : Shape := ⟨2, ![32, 1024]⟩
abbrev S20 : Shape := ⟨1, ![20]⟩
abbrev S32 : Shape := ⟨1, ![32]⟩
abbrev S16x1024x1024 : Shape := ⟨3, ![16, 1024, 1024]⟩
abbrev S32x1 : Shape := ⟨2, ![32, 1]⟩
abbrev S2048x128 : Shape := ⟨2, ![2048, 128]⟩
abbrev S1x1024x1024 : Shape := ⟨3, ![1, 1024, 1024]⟩
abbrev S1 : Shape := ⟨1, ![1]⟩
abbrev S1x512x1024 : Shape := ⟨3, ![1, 512, 1024]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S32x256 : Shape := ⟨2, ![32, 256]⟩
abbrev S1x256 : Shape := ⟨2, ![1, 256]⟩
abbrev S128x256 : Shape := ⟨2, ![128, 256]⟩
abbrev S1024x1024 : Shape := ⟨2, ![1024, 1024]⟩
abbrev S256x512 : Shape := ⟨2, ![256, 512]⟩
abbrev S512x1024 : Shape := ⟨2, ![512, 1024]⟩

abbrev nBuf : Space → Nat
  | .hbm => 24
  | .vmem => 15
  | .smem => 3
  | _ => 0

abbrev bufTy : (tb : Table) → Fin (tcTables nBuf tb) → BufTy
  | .hbm, ⟨0, _⟩ => ⟨S311296x128, .f32⟩
  | .hbm, ⟨1, _⟩ => ⟨S1x1024, .f32⟩
  | .hbm, ⟨2, _⟩ => ⟨S1024x4, .f32⟩
  | .hbm, ⟨3, _⟩ => ⟨S4, .f32⟩
  | .hbm, ⟨4, _⟩ => ⟨S1024x16, .f32⟩
  | .hbm, ⟨5, _⟩ => ⟨S16, .f32⟩
  | .hbm, ⟨6, _⟩ => ⟨S16x1024x512, .f32⟩
  | .hbm, ⟨7, _⟩ => ⟨S16x1024x512, .f32⟩
  | .hbm, ⟨8, _⟩ => ⟨S16x512x1024, .f32⟩
  | .hbm, ⟨9, _⟩ => ⟨S1024x20, .f32⟩
  | .hbm, ⟨10, _⟩ => ⟨S20x1024, .f32⟩
  | .hbm, ⟨11, _⟩ => ⟨S_, .i32⟩
  | .hbm, ⟨12, _⟩ => ⟨S_, .f32⟩
  | .hbm, ⟨13, _⟩ => ⟨S32x1024, .f32⟩
  | .hbm, ⟨14, _⟩ => ⟨S32x1024, .bf16⟩
  | .hbm, ⟨15, _⟩ => ⟨S20, .f32⟩
  | .hbm, ⟨16, _⟩ => ⟨S_, .i32⟩
  | .hbm, ⟨17, _⟩ => ⟨S_, .f32⟩
  | .hbm, ⟨18, _⟩ => ⟨S32, .f32⟩
  | .hbm, ⟨19, _⟩ => ⟨S16x1024x1024, .f32⟩
  | .hbm, ⟨20, _⟩ => ⟨S16x1024x1024, .bf16⟩
  | .hbm, ⟨21, _⟩ => ⟨S32x1, .f32⟩
  | .hbm, ⟨22, _⟩ => ⟨S16x512x1024, .bf16⟩
  | .hbm, ⟨23, _⟩ => ⟨S311296x128, .f32⟩
  | .local _ .vmem, ⟨0, _⟩ => ⟨S2048x128, .f32⟩
  | .local _ .vmem, ⟨1, _⟩ => ⟨S2048x128, .f32⟩
  | .local _ .vmem, ⟨2, _⟩ => ⟨S1x1024, .f32⟩
  | .local _ .vmem, ⟨3, _⟩ => ⟨S32x1024, .bf16⟩
  | .local _ .vmem, ⟨4, _⟩ => ⟨S32x1, .f32⟩
  | .local _ .vmem, ⟨5, _⟩ => ⟨S1x1024x1024, .bf16⟩
  | .local _ .vmem, ⟨6, _⟩ => ⟨S1x1024x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S2048x128, .f32⟩
  | .local _ .vmem, ⟨14, _⟩ => ⟨S2048x128, .f32⟩
  | .local _ .smem, ⟨0, _⟩ => ⟨S152, .i32⟩
  | .local _ .smem, ⟨1, _⟩ => ⟨S152, .i32⟩
  | .local _ .smem, ⟨2, _⟩ => ⟨S152, .i32⟩
  | _, _ => ⟨S311296x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_arg9 : Ref sig .tc := ⟨.hbm, 6, rfl⟩
abbrev main_arg10 : Ref sig .tc := ⟨.hbm, 7, rfl⟩
abbrev main_arg11 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![152], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v41 : Index := Scalar.indexCast arg0
  ![v41.toNat]
def k0_off3 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MoeRefIdeal.lean ====
abbrev S152 : Shape := ⟨1, ![152]⟩
abbrev S311296x128 : Shape := ⟨2, ![311296, 128]⟩
abbrev S1x1024 : Shape := ⟨2, ![1, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x512 : Shape := ⟨3, ![16, 1024, 512]⟩
abbrev S16x512x1024 : Shape := ⟨3, ![16, 512, 1024]⟩
abbrev S152x256x1024 : Shape := ⟨3, ![152, 256, 1024]⟩
abbrev S_ : Shape := ⟨0, ![]⟩
abbrev S152x256 : Shape := ⟨2, ![152, 256]⟩
abbrev S152x256x1 : Shape := ⟨3, ![152, 256, 1]⟩
abbrev S1x1x1024 : Shape := ⟨3, ![1, 1, 1024]⟩
abbrev S152x256x4 : Shape := ⟨3, ![152, 256, 4]⟩
abbrev S1x1x4 : Shape := ⟨3, ![1, 1, 4]⟩
abbrev S152x256x16 : Shape := ⟨3, ![152, 256, 16]⟩
abbrev S1x1x16 : Shape := ⟨3, ![1, 1, 16]⟩
abbrev S152x256x4x4 : Shape := ⟨4, ![152, 256, 4, 4]⟩
abbrev S152x256x4x1 : Shape := ⟨4, ![152, 256, 4, 1]⟩
abbrev S152x1 : Shape := ⟨2, ![152, 1]⟩
abbrev S1x16 : Shape := ⟨2, ![1, 16]⟩
abbrev S152x16 : Shape := ⟨2, ![152, 16]⟩
abbrev S152x1x16 : Shape := ⟨3, ![152, 1, 16]⟩
abbrev S152x256x16x512 : Shape := ⟨4, ![152, 256, 16, 512]⟩
abbrev S16x1024x152x256 : Shape := ⟨4, ![16, 1024, 152, 256]⟩
abbrev S152x256x16x1024 : Shape := ⟨4, ![152, 256, 16, 1024]⟩
abbrev S152x256x16x1 : Shape := ⟨4, ![152, 256, 16, 1]⟩
abbrev S152x1x1 : Shape := ⟨3, ![152, 1, 1]⟩

abbrev nBuf : Space → Nat
  | .hbm => 156
  | .vmem => 0
  | .smem => 0
  | _ => 0

abbrev hbmTy0_0 (i : Nat) : BufTy := match i % 128 with
  | 0 => ⟨S152, .i32⟩
  | 1 => ⟨S152, .i32⟩
  | 2 => ⟨S152, .i32⟩
  | 3 => ⟨S311296x128, .f32⟩
  | 4 => ⟨S1x1024, .f32⟩
  | 5 => ⟨S1024x4, .f32⟩
  | 6 => ⟨S4, .f32⟩
  | 7 => ⟨S1024x16, .f32⟩
  | 8 => ⟨S16, .f32⟩
  | 9 => ⟨S16x1024x512, .f32⟩
  | 10 => ⟨S16x1024x512, .f32⟩
  | 11 => ⟨S16x512x1024, .f32⟩
  | 12 => ⟨S152x256x1024, .f32⟩
  | 13 => ⟨S152x256x1024, .f32⟩
  | 14 => ⟨S_, .f32⟩
  | 15 => ⟨S152x256, .f32⟩
  | 16 => ⟨S152x256x1, .f32⟩
  | 17 => ⟨S_, .f32⟩
  | 18 => ⟨S152x256x1, .f32⟩
  | 19 => ⟨S152x256x1, .f32⟩
  | 20 => ⟨S_, .f32⟩
  | 21 => ⟨S152x256x1, .f32⟩
  | 22 => ⟨S152x256x1, .f32⟩
  | 23 => ⟨S152x256x1, .f32⟩
  | 24 => ⟨S152x256x1024, .f32⟩
  | 25 => ⟨S152x256x1024, .f32⟩
  | 26 => ⟨S1x1x1024, .f32⟩
  | 27 => ⟨S152x256x1024, .f32⟩
  | 28 => ⟨S152x256x1024, .f32⟩
  | 29 => ⟨S152x256x4, .f32⟩
  | 30 => ⟨S1x1x4, .f32⟩
  | 31 => ⟨S152x256x4, .f32⟩
  | 32 => ⟨S152x256x4, .f32⟩
  | 33 => ⟨S_, .f32⟩
  | 34 => ⟨S152x256, .f32⟩
  | 35 => ⟨S_, .f32⟩
  | 36 => ⟨S152x256, .f32⟩
  | 37 => ⟨S152x256, .f32⟩
  | 38 => ⟨S152x256x1, .f32⟩
  | 39 => ⟨S152x256x4, .f32⟩
  | 40 => ⟨S152x256x4, .f32⟩
  | 41 => ⟨S152x256x4, .f32⟩
  | 42 => ⟨S_, .f32⟩
  | 43 => ⟨S152x256, .f32⟩
  | 44 => ⟨S152x256x1, .f32⟩
  | 45 => ⟨S152x256x4, .f32⟩
  | 46 => ⟨S152x256x4, .f32⟩
  | 47 => ⟨S152x256x16, .f32⟩
  | 48 => ⟨S1x1x16, .f32⟩
  | 49 => ⟨S152x256x16, .f32⟩
  | 50 => ⟨S152x256x16, .f32⟩
  | 51 => ⟨S152x256x4x4, .f32⟩
  | 52 => ⟨S_, .f32⟩
  | 53 => ⟨S152x256x4, .f32⟩
  | 54 => ⟨S_, .f32⟩
  | 55 => ⟨S152x256x4, .f32⟩
  | 56 => ⟨S152x256x4, .f32⟩
  | 57 => ⟨S152x256x4x1, .f32⟩
  | 58 => ⟨S152x256x4x4, .f32⟩
  | 59 => ⟨S152x256x4x4, .f32⟩
  | 60 => ⟨S152x256x4x4, .f32⟩
  | 61 => ⟨S_, .f32⟩
  | 62 => ⟨S152x256x4, .f32⟩
  | 63 => ⟨S152x256x4x1, .f32⟩
  | 64 => ⟨S152x256x4x4, .f32⟩
  | 65 => ⟨S152x256x4x4, .f32⟩
  | 66 => ⟨S152x256x16, .f32⟩
  | 67 => ⟨S152x256x4x1, .f32⟩
  | 68 => ⟨S152x256x4x4, .f32⟩
  | 69 => ⟨S152x256x16, .f32⟩
  | 70 => ⟨S16, .i32⟩
  | 71 => ⟨S152x1, .i32⟩
  | 72 => ⟨S1x16, .i32⟩
  | 73 => ⟨S152x16, .i32⟩
  | 74 => ⟨S152x16, .i32⟩
  | 75 => ⟨S152x16, .i1⟩
  | 76 => ⟨S_, .f32⟩
  | 77 => ⟨S_, .f32⟩
  | 78 => ⟨S152x16, .f32⟩
  | 79 => ⟨S152x16, .f32⟩
  | 80 => ⟨S152x16, .f32⟩
  | 81 => ⟨S152x1x16, .f32⟩
  | 82 => ⟨S152x1, .i32⟩
  | 83 => ⟨S1x16, .i32⟩
  | 84 => ⟨S152x16, .i32⟩
  | 85 => ⟨S152x16, .i32⟩
  | 86 => ⟨S152x16, .i1⟩
  | 87 => ⟨S_, .f32⟩
  | 88 => ⟨S_, .f32⟩
  | 89 => ⟨S152x16, .f32⟩
  | 90 => ⟨S152x16, .f32⟩
  | 91 => ⟨S152x16, .f32⟩
  | 92 => ⟨S152x1x16, .f32⟩
  | 93 => ⟨S152x1x16, .f32⟩
  | 94 => ⟨S152x256x16, .f32⟩
  | 95 => ⟨S152x256x16, .f32⟩
  | 96 => ⟨S_, .f32⟩
  | 97 => ⟨S152x256, .f32⟩
  | 98 => ⟨S152x256x1, .f32⟩
  | 99 => ⟨S152x1x16, .f32⟩
  | 100 => ⟨S152x256x16, .f32⟩
  | 101 => ⟨S152x256x16, .f32⟩
  | 102 => ⟨S_, .f32⟩
  | 103 => ⟨S152x256, .f32⟩
  | 104 => ⟨S152x256x1, .f32⟩
  | 105 => ⟨S152x1x16, .f32⟩
  | 106 => ⟨S152x256x16, .f32⟩
  | 107 => ⟨S152x256x16, .f32⟩
  | 108 => ⟨S_, .f32⟩
  | 109 => ⟨S152x256, .f32⟩
  | 110 => ⟨S152x256x1, .f32⟩
  | 111 => ⟨S152x256x1, .f32⟩
  | 112 => ⟨S152x256x1, .f32⟩
  | 113 => ⟨S152x256x1, .f32⟩
  | 114 => ⟨S152x1x16, .f32⟩
  | 115 => ⟨S152x256x16, .f32⟩
  | 116 => ⟨S152x256x16, .f32⟩
  | 117 => ⟨S152x256x16, .f32⟩
  | 118 => ⟨S152x256x1, .f32⟩
  | 119 => ⟨S152x256x1, .f32⟩
  | 120 => ⟨S152x256x1, .f32⟩
  | 121 => ⟨S152x1x16, .f32⟩
  | 122 => ⟨S152x256x16, .f32⟩
  | 123 => ⟨S152x256x16, .f32⟩
  | 124 => ⟨S152x256x16, .f32⟩
  | 125 => ⟨S152x256x16, .f32⟩
  | 126 => ⟨S152x256x16x512, .f32⟩
  | 127 => ⟨S152x256x16x512, .f32⟩
  | _ => ⟨S152, .i32⟩

abbrev hbmTy0_1 (i : Nat) : BufTy := match i % 128 with
  | 0 => ⟨S152x256x16x512, .f32⟩
  | 1 => ⟨S_, .f32⟩
  | 2 => ⟨S152x256x16x512, .f32⟩
  | 3 => ⟨S152x256x16x512, .f32⟩
  | 4 => ⟨S_, .f32⟩
  | 5 => ⟨S152x256x16x512, .f32⟩
  | 6 => ⟨S152x256x16x512, .f32⟩
  | 7 => ⟨S152x256x16x512, .f32⟩
  | 8 => ⟨S152x256x16x512, .f32⟩
  | 9 => ⟨S152x256x16x512, .f32⟩
  | 10 => ⟨S16x1024x152x256, .f32⟩
  | 11 => ⟨S152x256x16x1024, .f32⟩
  | 12 => ⟨S152x256x16x1, .f32⟩
  | 13 => ⟨S152x256x16x1024, .f32⟩
  | 14 => ⟨S152x256x16x1024, .f32⟩
  | 15 => ⟨S_, .f32⟩
  | 16 => ⟨S152x256x1024, .f32⟩
  | 17 => ⟨S152x256x1024, .f32⟩
  | 18 => ⟨S152x1x1, .i32⟩
  | 19 => ⟨S_, .i32⟩
  | 20 => ⟨S152x1x1, .i32⟩
  | 21 => ⟨S152x1x1, .i1⟩
  | 22 => ⟨S_, .f32⟩
  | 23 => ⟨S_, .f32⟩
  | 24 => ⟨S152x256x1024, .i1⟩
  | 25 => ⟨S152x256x1024, .f32⟩
  | 26 => ⟨S152x256x1024, .f32⟩
  | 27 => ⟨S311296x128, .f32⟩
  | _ => ⟨S152, .i32⟩

abbrev hbmTy (i : Nat) : BufTy := match i / 128 with
  | 0 => hbmTy0_0 i
  | 1 => hbmTy0_1 i
  | _ => ⟨S152, .i32⟩

abbrev bufTy : (tb : Table) → Fin (tcTables nBuf tb) → BufTy
  | .hbm, ⟨i, _⟩ => hbmTy i
  | _, _ => ⟨S152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_cst_9 : Ref sig .tc := ⟨.hbm, 77, rfl⟩
abbrev main_call0_v0 : Ref sig .tc := ⟨.hbm, 78, rfl⟩
abbrev main_call0_v1 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_10 : Ref sig .tc := ⟨.hbm, 87, rfl⟩
abbrev main_cst_11 : Ref sig .tc := ⟨.hbm, 88, rfl⟩
abbrev main_call1_v0 : Ref sig .tc := ⟨.hbm, 89, rfl⟩
abbrev main_call1_v1 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_13 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_14 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_call2_v0 : Ref sig .tc := ⟨.hbm, 127, rfl⟩
abbrev main_call2_v1 : Ref sig .tc := ⟨.hbm, 128, rfl⟩
abbrev main_call2_cst : Ref sig .tc := ⟨.hbm, 129, rfl⟩
abbrev main_call2_v2 : Ref sig .tc := ⟨.hbm, 130, rfl⟩
abbrev main_call2_v3 : Ref sig .tc := ⟨.hbm, 131, rfl⟩
abbrev main_call2_cst_0 : Ref sig .tc := ⟨.hbm, 132, rfl⟩
abbrev main_call2_v4 : Ref sig .tc := ⟨.hbm, 133, rfl⟩
abbrev main_call2_v5 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_15 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_c : Ref sig .tc := ⟨.hbm, 147, rfl⟩
abbrev main_v106 : Ref sig .tc := ⟨.hbm, 148, rfl⟩
abbrev main_v107 : Ref sig .tc := ⟨.hbm, 149, rfl⟩
abbrev main_cst_16 : Ref sig .tc := ⟨.hbm, 150, rfl⟩
abbrev main_call3_v0 : Ref sig .tc := ⟨.hbm, 151, rfl⟩
abbrev main_call3_v1 : Ref sig .tc := ⟨.hbm, 152, rfl⟩
abbrev main_call3_v2 : Ref sig .tc := ⟨.hbm, 153, rfl⟩
abbrev main_v108 : Ref sig .tc := ⟨.hbm, 154, rfl⟩
abbrev main_v109 : Ref sig .tc := ⟨.hbm, 155, rfl⟩

abbrev nD : Nat := 1
abbrev τ : Topo := Topo.v7x

variable {F : FTy → Type} [FloatOps F]
-- ==== Proof.Consts.lean ====
/- The float constants the programs spell, as the reals their words denote, and the kernel's table of ones and 1/64. -/
module

public import Idealize.ShloMosaic.PureOps.Ideal

@[expose] public section

noncomputable section

namespace Cert.Consts

open Idealize.ShloMosaic

/-- The word of the constant under the root denotes this real. -/
def eps : ℝ := 8796093 * (2 : ℝ) ^ (-43 : ℤ)

theorem eps_pos : 0 < eps := by unfold eps; positivity

theorem ofBits_eps : Ideal.ofBits .f32 0x358637BD#32 = (eps : EReal) := by
  simp [Ideal.ofBits, Ideal.ieee, -EReal.coe_mul, eps]
theorem ofBits_eighth : Ideal.ofBits .f32 0x3E000000#32 = ((1 / 8 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_zero : Ideal.ofBits .f32 0x00000000#32 = ((0 : ℝ) : EReal) := by
  simp [Ideal.ofBits, Ideal.ieee]
theorem ofBits_ninf : Ideal.ofBits .f32 0xFF800000#32 = (⊥ : EReal) := by
  simp [Ideal.ofBits, Ideal.ieee]
theorem ofBits_inf : Ideal.ofBits .f32 0x7F800000#32 = (⊤ : EReal) := by
  simp [Ideal.ofBits, Ideal.ieee]
theorem ofBits_bf16_zero : Ideal.ofBits .bf16 0x0000#16 = ((0 : ℝ) : EReal) := by
  simp [Ideal.ofBits, Ideal.ieee]
theorem ofBits_bf16_one : Ideal.ofBits .bf16 0x3F80#16 = ((1 : ℝ) : EReal) := by
  simp [Ideal.ofBits, Ideal.ieee, -EReal.coe_mul]; norm_num
theorem ofBits_bf16_64th : Ideal.ofBits .bf16 0x3C80#16 = ((1 / 64 : ℝ) : EReal) := by
  simp [Ideal.ofBits, Ideal.ieee, -EReal.coe_mul]; norm_num

end Cert.Consts

end
-- ==== Proof.Finite.lean ====
/- What the precondition says: every query, key and value is a real. -/
module

public import proofs.«01_k».proof.Proof.Gen.Pre_attn_finite
public import proofs.«01_k».proof.Proof.Consts
public import Idealize.ShloMosaic.Lib.ReduceAll
public import Idealize.ShloMosaic.PureOps.Ideal

@[expose] public section

set_option maxRecDepth 16384

noncomputable section

namespace Cert.Pre_attn_finite.Finite

open Cert.Pre_attn_finite Cert.Pre_attn_finite.Gen Idealize.ShloMosaic

instance : Subsingleton S_.Idx := ⟨fun a b => funext fun k => k.elim0⟩

/-- A number of the magnitude below the infinity is a real. -/
theorem real_of_lt {x : EReal} (h : FloatOps.cmpf (F := Ideal) (φ := .f32) .olt (FloatOps.hostAbsf (F := Ideal) (φ := .f32) x) (Ideal.ofBits .f32 0x7F800000#32) = 1#1) :
    x = ((x.toReal : ℝ) : EReal) := by
  rw [Consts.ofBits_inf] at h
  change Ideal.cmp .olt (max x (-x)) ⊤ = 1#1 at h
  induction x with
  | bot => simp [Ideal.cmp] at h
  | top => simp [Ideal.cmp] at h
  | coe r => rfl

/-- Under the precondition every query, key and value is a real. -/
theorem finite (q : FVec Ideal S8x8x4096x64 .f32) (k v : FVec Ideal S8x2x4096x64 .f32) (g : FVec Ideal S1x512 .f32)
    (h : fn (F := Ideal) q k v g = fun _ => 1#1) :
    (∀ i, q i = ((EReal.toReal (q i) : ℝ) : EReal)) ∧ (∀ i, k i = ((EReal.toReal (k i) : ℝ) : EReal)) ∧ (∀ i, v i = ((EReal.toReal (v i) : ℝ) : EReal)) := by
  have h0 := congrFun h (Shape.Idx.first h_S_)
  dsimp only [fn] at h0
  obtain ⟨h1, hv⟩ := IntOp.andi_eq_one.1 h0
  obtain ⟨hq, hk⟩ := IntOp.andi_eq_one.1 h1
  exact ⟨fun i => real_of_lt (Host.reduce_andi_all _ _ _ _ _ hq i), fun i => real_of_lt (Host.reduce_andi_all _ _ _ _ _ hk i),
    fun i => real_of_lt (Host.reduce_andi_all _ _ _ _ _ hv i)⟩

end Cert.Pre_attn_finite.Finite

end
-- ==== Proof.Softmax.lean ====
/- Real-number facts of a softmax-weighted mean with a head norm: the sums that an online softmax carries from one chunk
   of keys to the next, and the value both programs end at. Nothing here mentions a program. -/
module

public import Idealize.ShloMosaic.PureOps.Ideal
public import Idealize.ShloMosaic.PureOps.Ideal.Laws

@[expose] public section

noncomputable section

namespace Cert.Softmax

open Idealize.ShloMosaic

/-- A sum of reals, taken in the extended reals, is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- The greatest of finitely many reals, from −∞, over at least one, is a real. -/
theorem fold_max_coe {ι : Type} (s : Finset ι) (f : ι → ℝ) :
    s.fold max (⊥ : EReal) (fun i => (f i : EReal)) = ⊥ ∧ s = ∅ ∨ ∃ M : ℝ, s.fold max (⊥ : EReal) (fun i => (f i : EReal)) = M := by
  classical
  induction s using Finset.induction_on with
  | empty => left; simp
  | insert a s h ih =>
    right
    rw [Finset.fold_insert h]
    rcases ih with ⟨h1, _⟩ | ⟨M, hM⟩
    · exact ⟨f a, by rw [h1]; simp⟩
    · exact ⟨max (f a) M, by rw [hM]; exact (EReal.coe_strictMono.monotone.map_max).symm⟩

/-- The greatest of `n > 0` reals, from −∞, is a real. -/
theorem fold_max_fin {n : ℕ} (hn : 0 < n) (f : Fin n → ℝ) :
    ∃ M : ℝ, (Finset.univ : Finset (Fin n)).fold max (⊥ : EReal) (fun i => (f i : EReal)) = M := by
  rcases fold_max_coe Finset.univ f with ⟨_, h⟩ | h
  · exact absurd (h ▸ Finset.mem_univ (⟨0, hn⟩ : Fin n)) (by simp)
  · exact h

/-- The state of an online softmax over the first `n` keys of scores `s` (base two) and values `v`: a real shift `M` (the
    running maximum), and for each column the sum of `2 ^ (s t - M) * v t d`; before the first key −∞ and zeros. -/
def St {ι : Type} (s : ℕ → ℝ) (v : ℕ → ι → ℝ) (n : ℕ) (m : EReal) (a : ι → EReal) : Prop :=
  (n = 0 ∧ m = ⊥ ∧ ∀ d, a d = 0) ∨
  ∃ M : ℝ, m = M ∧ ∀ d, a d = ((∑ t ∈ Finset.range n, (2 : ℝ) ^ (s t - M) * v t d : ℝ) : EReal)

/-- One chunk of `k` keys takes the state over `n` keys to the state over `n + k`. -/
theorem St.step {ι : Type} {s : ℕ → ℝ} {v : ℕ → ι → ℝ} {n : ℕ} {m : EReal} {a : ι → EReal} (h : St s v n m a)
    {k : ℕ} (hk : 0 < k) (sc : Fin k → EReal) (hs : ∀ t : Fin k, sc t = (s (n + t) : EReal))
    (vc : Fin k → ι → EReal) (hv : ∀ t d, vc t d = (v (n + t) d : EReal))
    (m' : EReal) (hm' : m' = max m (Finset.univ.fold max ⊥ sc))
    (a' : ι → EReal) (ha' : ∀ d, a' d = Ideal.exp2 (m - m') * a d + (0 + ∑ t, Ideal.exp2 (sc t - m') * vc t d)) :
    St s v (n + k) m' a' := by
  obtain ⟨F, hF⟩ := fold_max_fin hk (fun t : Fin k => s (n + t))
  rw [show sc = fun t : Fin k => (s (n + t) : EReal) from funext hs, hF] at hm'
  have hsum : ∀ (M : ℝ) (d : ι), (∑ t, Ideal.exp2 (sc t - (M : EReal)) * vc t d)
      = ((∑ t : Fin k, (2 : ℝ) ^ (s (n + t) - M) * v (n + t) d : ℝ) : EReal) := by
    intro M d
    rw [← coe_sum]
    refine Finset.sum_congr rfl fun t _ => ?_
    rw [hs, hv, ← EReal.coe_sub, Ideal.exp2_coe, EReal.coe_mul]
    rfl
  right
  rcases h with ⟨hn, hm, ha⟩ | ⟨M, hm, ha⟩
  · subst hn
    refine ⟨F, by rw [hm', hm]; simp, fun d => ?_⟩
    rw [ha', show m' = (F : EReal) by rw [hm', hm]; simp, hsum, hm, ha, Finset.sum_range_add]
    simp [Finset.sum_range]
  · have hM : m' = ((max M F : ℝ) : EReal) := by
      rw [hm', hm]; exact (EReal.coe_strictMono.monotone.map_max).symm
    refine ⟨max M F, hM, fun d => ?_⟩
    rw [ha', hM, hsum, hm, ha, ← EReal.coe_sub, Ideal.exp2_coe, zero_add, ← EReal.coe_mul, ← EReal.coe_add,
      Finset.sum_range_add, Finset.mul_sum, Finset.sum_range (n := k)]
    congr 2
    refine Finset.sum_congr rfl fun t _ => ?_
    rw [← mul_assoc]
    congr 1
    show (2 : ℝ) ^ (M - max M F) * _ = _
    rw [← Real.rpow_add (by norm_num)]
    congr 1; ring

/-! ## The value both programs end at -/

/-- Softmax attention over `n` keys: the mean of the values weighted by the exponentials of the scores. -/
def mean {n : ℕ} (s : Fin n → ℝ) (v : Fin n → ℝ) : ℝ := (∑ t, Real.exp (s t) * v t) / ∑ t, Real.exp (s t)

/-- The mean divided by the root of the mean square of its 64 columns plus `eps`. -/
def normed {n : ℕ} (eps : ℝ) (s : Fin n → ℝ) (v : Fin n → Fin 64 → ℝ) (d : Fin 64) : ℝ :=
  mean s (v · d) * (Real.sqrt ((∑ e, mean s (v · e) * mean s (v · e)) / 64 + eps))⁻¹

theorem sum_exp_pos {n : ℕ} (hn : 0 < n) (s : Fin n → ℝ) : 0 < ∑ t, Real.exp (s t) :=
  Finset.sum_pos (fun _ _ => Real.exp_pos _) ⟨⟨0, hn⟩, Finset.mem_univ _⟩

/-- The reference's spelling: shifted exponentials divided by their sum, before the values are summed. -/
theorem ref_mean {n : ℕ} (hn : 0 < n) (s v : Fin n → ℝ) (N : ℝ) :
    ∑ t, Real.exp (s t - N) * (1 / ∑ u, Real.exp (s u - N)) * v t = mean s v := by
  have h : ∀ t, Real.exp (s t - N) = Real.exp (s t) * Real.exp (-N) := fun t => by rw [← Real.exp_add]; rfl
  have hp := sum_exp_pos hn s
  have he : Real.exp (-N) ≠ 0 := (Real.exp_pos _).ne'
  simp only [h, ← Finset.sum_mul, mean]
  rw [Finset.sum_div]
  refine Finset.sum_congr rfl fun t _ => ?_
  field_simp

/-- The kernel's spelling: sums `A`, `L` of base-two powers, normalised together. -/
theorem kernel_normed {n : ℕ} (hn : 0 < n) (eps : ℝ) (s : Fin n → ℝ) (v : Fin n → Fin 64 → ℝ) (s2 : Fin n → ℝ)
    (h2 : ∀ t, s2 t * Real.log 2 = s t) (M : ℝ) (A : Fin 64 → ℝ) (L : ℝ)
    (hA : ∀ d, A d = ∑ t, (2 : ℝ) ^ (s2 t - M) * v t d) (hL : L = ∑ t, (2 : ℝ) ^ (s2 t - M)) (d : Fin 64) :
    A d * (Real.sqrt ((∑ e, A e * A e * (1 / 64)) + eps * L * L))⁻¹ = normed eps s v d ∧ 0 < L := by
  have hp := sum_exp_pos hn s
  have hc : (0 : ℝ) < (2 : ℝ) ^ (-M) := Real.rpow_pos_of_pos (by norm_num) _
  have hw : ∀ t, (2 : ℝ) ^ (s2 t - M) = Real.exp (s t) * (2 : ℝ) ^ (-M) := fun t => by
    rw [sub_eq_add_neg, Real.rpow_add (by norm_num), Real.rpow_def_of_pos (by norm_num : (0 : ℝ) < 2) (s2 t),
      mul_comm (Real.log 2), h2]
  simp only [hw] at hA hL
  have hL' : L = (∑ t, Real.exp (s t)) * (2 : ℝ) ^ (-M) := by rw [hL, Finset.sum_mul]
  have hLp : 0 < L := by rw [hL']; positivity
  have hAm : ∀ d, A d = L * mean s (v · d) := fun d => by
    rw [hA, hL', mean]
    field_simp
    rw [Finset.mul_sum]
    exact Finset.sum_congr rfl fun t _ => by ring
  refine ⟨?_, hLp⟩
  have e1 : (∑ e, A e * A e * (1 / 64)) + eps * L * L = L ^ 2 * ((∑ e, mean s (v · e) * mean s (v · e)) / 64 + eps) := by
    rw [mul_add, Finset.sum_div, Finset.mul_sum]
    congr 1
    · exact Finset.sum_congr rfl fun e _ => by rw [hAm e]; ring
    · ring
  rw [e1, Real.sqrt_mul (by positivity), Real.sqrt_sq hLp.le, hAm d, normed, mul_inv]
  field_simp

end Cert.Softmax

end
-- ==== Proof.RefValue.lean ====
/- The reference's result at an index, for finite queries, keys and values: the normalised softmax mean times the gain. -/
module

public import proofs.«01_k».proof.Proof.Gen.AttnRefIdeal.Read
public import proofs.«01_k».proof.Proof.Softmax
public import proofs.«01_k».proof.Proof.Consts
public import Idealize.ShloMosaic.Lib.Pointwise

@[expose] public section

set_option maxRecDepth 16384

noncomputable section

namespace Cert.AttnRefIdeal.Ref

open Cert.AttnRefIdeal Cert.AttnRefIdeal.Gen Cert.AttnRefIdeal.Read Idealize.ShloMosaic Idealize.ShloMosaic.TcCoe

variable (q : S8x8x4096x64.Idx → ℝ) (k v : S8x2x4096x64.Idx → ℝ)

/-- An array of reals, as the extended reals a buffer holds. -/
abbrev up {s : Shape} (f : s.Idx → ℝ) : s.Idx → EReal := fun i => (f i : EReal)

/-- The score of a query row against a key, at the index (batch, group, head, row, key). -/
def sc (i : S8x2x4x4096x4096.Idx) : ℝ := (∑ e : Fin 64, q (idx_main_v0 (lidx_main_v1 i e)) * k (ridx_main_v1 i e)) * (1 / 8)

theorem v3 (i : S8x2x4x4096x4096.Idx) : val_main_v3 (F := Ideal) (up q) (up k) i = (sc q k i : EReal) := by
  rw [val_main_v3_apply, val_main_v1_apply, val_main_v2_apply, val_main_cst_apply, Ideal.mulf_def, Ideal.ofBits_def,
    Consts.ofBits_eighth, sc, EReal.coe_mul, ← Softmax.coe_sum]
  congr 1
  refine Finset.sum_congr rfl fun e _ => ?_
  rw [val_main_v0_apply, EReal.coe_mul]

/-- The greatest score of a query row is a real. -/
theorem v4 (j : S8x2x4x4096.Idx) : ∃ N : ℝ, val_main_v4 (F := Ideal) (up q) (up k) j = (N : EReal) := by
  unfold val_main_v4
  rw [show val_main_v3 (F := Ideal) (up q) (up k) = fun i => (sc q k i : EReal) from funext (v3 q k)]
  generalize sc q k = f
  idx_vars j
  pointwise
  rw [val_main_cst_0_apply, Ideal.ofBits_def, Consts.ofBits_ninf]
  exact Softmax.fold_max_fin (by norm_num) _

/-- The exponential of a score less the row's greatest. -/
theorem v10 (j : S8x2x4x4096.Idx) : ∃ N : ℝ, ∀ t : Fin 4096,
    val_main_v10 (F := Ideal) (up q) (up k) (idx_main_v11 j t) = ((Real.exp (sc q k (idx_main_v11 j t) - N) : ℝ) : EReal) := by
  obtain ⟨N, hN⟩ := v4 q k j
  refine ⟨N, fun t => ?_⟩
  rw [val_main_v10_apply, val_main_v9_apply, v3, val_main_v8_apply, val_main_v7_apply, val_main_v6_apply,
    val_main_v5_apply, val_main_cst_1_apply,
    show idx_main_v7 (idx_main_v8 (idx_main_v11 j t)) = j from funext fun a => by
      match a with | ⟨0, _⟩ => rfl | ⟨1, _⟩ => rfl | ⟨2, _⟩ => rfl | ⟨3, _⟩ => rfl,
    hN, Ideal.ofBits_def, Consts.ofBits_ninf, Ideal.maximumf_def, max_eq_right bot_le, Ideal.subf_def, ← EReal.coe_sub,
    Ideal.hostUnary_exp_def, Ideal.exp_coe]

/-- The query row an entry of the result belongs to. -/
def row (i : S8x2x4x4096x64.Idx) : S8x2x4x4096.Idx
  | ⟨0, _⟩ => i 0
  | ⟨1, _⟩ => i 1
  | ⟨2, _⟩ => i 2
  | ⟨3, _⟩ => i 3

theorem lidx_row (i : S8x2x4x4096x64.Idx) (e : Fin 64) (t : Fin 4096) :
    lidx_main_v15 (idx_main_v17 (row i) e) t = lidx_main_v15 i t := funext fun a => by
  match a with | ⟨0, _⟩ => rfl | ⟨1, _⟩ => rfl | ⟨2, _⟩ => rfl | ⟨3, _⟩ => rfl | ⟨4, _⟩ => rfl

/-- The weighted mean of the values. -/
theorem v15 (i : S8x2x4x4096x64.Idx) : val_main_v15 (F := Ideal) (up q) (up k) (up v) i
    = ((Softmax.mean (fun t => sc q k (lidx_main_v15 i t)) (fun t => v (ridx_main_v15 i t)) : ℝ) : EReal) := by
  obtain ⟨N, hN⟩ := v10 q k (row i)
  rw [val_main_v15_apply, ← Softmax.ref_mean (by norm_num) _ _ N, ← Softmax.coe_sum]
  have hidx : ∀ t, lidx_main_v15 i t = idx_main_v11 (row i) t :=
    fun t => funext fun a => by
      match a with | ⟨0, _⟩ => rfl | ⟨1, _⟩ => rfl | ⟨2, _⟩ => rfl | ⟨3, _⟩ => rfl | ⟨4, _⟩ => rfl
  have hne : (∑ t : Fin 4096, Real.exp (sc q k (lidx_main_v15 i t) - N)) ≠ 0 :=
    (Softmax.sum_exp_pos (by norm_num) fun t => sc q k (lidx_main_v15 i t) - N).ne'
  refine Finset.sum_congr rfl fun t _ => ?_
  rw [val_main_v14_apply, val_main_v13_apply, val_main_v12_apply, val_main_v11_apply, val_main_cst_2_apply,
    show idx_main_v12 (idx_main_v13 (lidx_main_v15 i t)) = (row i) from
      funext fun a => by match a with | ⟨0, _⟩ => rfl | ⟨1, _⟩ => rfl | ⟨2, _⟩ => rfl | ⟨3, _⟩ => rfl]
  simp only [hidx] at hne ⊢
  simp only [hN, Softmax.coe_sum, Ideal.ofBits_def, Consts.ofBits_zero, ← EReal.coe_add, zero_add, Ideal.hostDivf_def]
  rw [Ideal.div_coe hne, ← EReal.coe_mul, ← EReal.coe_mul]

/-- The mean with its head norm. -/
theorem v25 (i : S8x2x4x4096x64.Idx) (d : Fin 64) (hd : i 4 = d) : val_main_v25 (F := Ideal) (up q) (up k) (up v) i
    = ((Softmax.normed Consts.eps (fun t => sc q k (lidx_main_v15 i t))
        (fun t e => v (ridx_main_v15 (idx_main_v17 (row i) e) t)) d : ℝ) : EReal) := by
  have hpos : ∀ f : Fin 64 → ℝ, 0 < (∑ e, f e * f e) / 64 + Consts.eps := fun f =>
    add_pos_of_nonneg_of_pos (div_nonneg (Finset.sum_nonneg fun e _ => mul_self_nonneg _) (by norm_num)) Consts.eps_pos
  have hi : idx_main_v17 (row i) d = i := by
    funext a; match a with | ⟨0, _⟩ => rfl | ⟨1, _⟩ => rfl | ⟨2, _⟩ => rfl | ⟨3, _⟩ => rfl | ⟨4, _⟩ => exact hd.symm
  rw [val_main_v25_apply, v15, val_main_v24_apply, val_main_v23_apply, val_main_v22_apply, val_main_v21_apply,
    val_main_cst_5_apply, val_main_v20_apply, val_main_v19_apply, val_main_cst_4_apply, val_main_v18_apply, val_main_v17_apply,
    val_main_cst_3_apply, show idx_main_v18 (idx_main_v24 i) = (row i) from
      funext fun a => by match a with | ⟨0, _⟩ => rfl | ⟨1, _⟩ => rfl | ⟨2, _⟩ => rfl | ⟨3, _⟩ => rfl]
  simp only [val_main_v16_apply, v15, Ideal.mulf_def, ← EReal.coe_mul, Softmax.coe_sum, Ideal.ofBits_def, Consts.ofBits_zero,
    Consts.ofBits_64, Consts.ofBits_eps, ← EReal.coe_add, zero_add, Ideal.hostDivf_def, Ideal.addf_def]
  rw [Ideal.div_coe (by norm_num), ← EReal.coe_mul, ← EReal.coe_add, Ideal.hostUnary_rsqrt_def, Ideal.rsqrt_coe, mul_one_div]
  simp only [lidx_row]
  have h := hpos fun e => Softmax.mean (fun t => sc q k (lidx_main_v15 i t)) (fun t => v (ridx_main_v15 (idx_main_v17 (row i) e) t))
  rw [if_neg (not_lt.mpr h.le), if_neg h.ne', ← EReal.coe_mul]
  unfold Softmax.normed
  simp only [hi]

end Cert.AttnRefIdeal.Ref

end
-- ==== Proof.Block.lean ====
module

public import proofs.«01_k».proof.Proof.Gen.AttnIdeal.Frame
public import proofs.«01_k».proof.Proof.Softmax
public import proofs.«01_k».proof.Proof.Consts
public import Idealize.ShloMosaic.Lib.Pointwise

@[expose] public section

noncomputable section

namespace Cert.AttnIdeal.Block

open Cert.AttnIdeal Cert.AttnIdeal.Gen Idealize.ShloMosaic Idealize.ShloMosaic.Pointwise

/-! ## One chunk of keys -/

section Steps
variable {F : FTy → Type} [FloatOps F] [Named F]

/-- The scores of the 2048 query rows against one chunk of 512 keys. -/
def scT (Q : FVec F S2048x64 .bf16) (K : Vec F S1x1x512x64 .bf16) : FVec F S2048x512 .f32 :=
  matmul dot_S2048x64_S512x64_S2048x512_1_1_0_0_n_n none Q (shapeCast S512x64 K shapeCasts_S1x1x512x64_S512x64) (constant S2048x512 .f32 0x00000000#32)

/-- The running greatest score after a chunk. -/
def mxT (Q : FVec F S2048x64 .bf16) (K : Vec F S1x1x512x64 .bf16) (m : FVec F S2048x1 .f32) : FVec F S2048x1 .f32 :=
  maximumf m (shapeCast S2048x1 (multiReduction .maximumf [1] S2048 (scT Q K) 0xFF800000#32 reduces_S2048x512_S2048 (.inl rfl) rfl) shapeCasts_S2048_S2048x1)

/-- The running weighted sums after a chunk, columns 0–63 of the values, 64 of the weights. -/
def acT (Q : FVec F S2048x64 .bf16) (K : Vec F S1x1x512x64 .bf16) (W : Vec F S1x1x512x128 .bf16) (m : FVec F S2048x1 .f32)
    (a : FVec F S2048x128 .f32) : FVec F S2048x128 .f32 :=
  addf (mulf (broadcastTo S2048x128 (exp2 (subf m (mxT Q K m))) broadcasts_S2048x1_S2048x128) a)
    (matmul dot_S2048x512_S512x128_S2048x128_1_0_0_1_n_n none
      (exp2 (truncf .bf16 (subf (scT Q K) (broadcastTo S2048x512 (mxT Q K m) broadcasts_S2048x1_S2048x512)) bitsLt_bf16_f32))
      (shapeCast S512x128 W shapeCasts_S1x1x512x128_S512x128) (constant S2048x128 .f32 0x00000000#32))

/-- The accumulator before the first chunk. -/
def ac0 : FVec F S2048x128 .f32 := broadcast S2048x128 (Scalar.ofBits .f32 0x00000000#32)

/-- The head norm, from the weighted sums and the two halves of the norm's matrix. -/
def nrmT (a : FVec F S2048x128 .f32) (st0 st1 : Vec F S128x128 .bf16) : FVec F S2048x128 .f32 :=
  have sq := mulf a a
  have hi : FVec F S2048x128 .bf16 := truncf .bf16 sq bitsLt_bf16_f32
  have lo : FVec F S2048x128 .bf16 := truncf .bf16 (subf sq (extf .f32 hi bitsLt_bf16_f32)) bitsLt_bf16_f32
  have ms := addf (matmul dot_S2048x128_S128x128_S2048x128_1_0_0_1_n_n none hi st0 (constant S2048x128 .f32 0x00000000#32))
    (matmul dot_S2048x128_S128x128_S2048x128_1_0_0_1_n_n none lo st0 (constant S2048x128 .f32 0x00000000#32))
  have ahi : FVec F S2048x128 .bf16 := truncf .bf16 a bitsLt_bf16_f32
  have alo : FVec F S2048x128 .bf16 := truncf .bf16 (subf a (extf .f32 ahi bitsLt_bf16_f32)) bitsLt_bf16_f32
  have l := addf (matmul dot_S2048x128_S128x128_S2048x128_1_0_0_1_n_n none ahi st1 (constant S2048x128 .f32 0x00000000#32))
    (matmul dot_S2048x128_S128x128_S2048x128_1_0_0_1_n_n none alo st1 (constant S2048x128 .f32 0x00000000#32))
  mulf a (rsqrt (addf ms (mulf (mulf (broadcast S2048x128 (Scalar.ofBits .f32 0x358637BD#32)) l) l)))

/-- The output block: the four heads' rows beside one another, times the norm's gain. -/
def finT (n : FVec F S2048x128 .f32) (g : Vec F S1x256 .f32) : FVec F S512x256 .bf16 :=
  have y : FVec F S2048x64 .f32 := extractStridedSlice S2048x64 ![0, 0] n slices_S2048x128_o0_0_S2048x64
  truncf .bf16 (mulf (concatenate S512x256 1 [⟨S512x64, extractStridedSlice S512x64 ![0, 0] y slices_S2048x64_o0_0_S512x64⟩,
      ⟨S512x64, extractStridedSlice S512x64 ![512, 0] y slices_S2048x64_o512_0_S512x64⟩,
      ⟨S512x64, extractStridedSlice S512x64 ![1024, 0] y slices_S2048x64_o1024_0_S512x64⟩,
      ⟨S512x64, extractStridedSlice S512x64 ![1536, 0] y slices_S2048x64_o1536_0_S512x64⟩] concatenates_S512x64_S512x64_S512x64_S512x64_S512x256_d1)
    (broadcastTo S512x256 g broadcasts_S1x256_S512x256)) bitsLt_bf16_f32

end Steps

/-! ## The steps read at an index -/

variable (Q : FVec Ideal S2048x64 .bf16) (K : Vec Ideal S1x1x512x64 .bf16) (W : Vec Ideal S1x1x512x128 .bf16)
  (m : FVec Ideal S2048x1 .f32) (a : FVec Ideal S2048x128 .f32)

theorem scT_apply (r : Fin 2048) (t : Fin 512) : scT Q K (ix2 r t) = 0 + ∑ e : Fin 64, Q (ix2 r e) * K (ix4 0 0 t e) := by
  pointwise [scT]

theorem mxT_apply (r : Fin 2048) : mxT Q K m (ix2 r 0) = max (m (ix2 r 0)) (Finset.univ.fold max ⊥ fun t : Fin 512 => scT Q K (ix2 r t)) := by
  unfold mxT
  generalize scT Q K = s
  pointwise
  rw [Consts.ofBits_ninf]

theorem acT_apply (r : Fin 2048) (d : Fin 128) : acT Q K W m a (ix2 r d)
    = Ideal.exp2 (m (ix2 r 0) - mxT Q K m (ix2 r 0)) * a (ix2 r d)
      + (0 + ∑ t : Fin 512, Ideal.exp2 (scT Q K (ix2 r t) - mxT Q K m (ix2 r 0)) * W (ix4 0 0 t d)) := by
  unfold acT
  generalize scT Q K = s
  generalize mxT Q K m = mx
  pointwise
  rfl

theorem nrmT_apply (st0 st1 : Vec Ideal S128x128 .bf16) (r : Fin 2048) (d : Fin 128) : nrmT a st0 st1 (ix2 r d) =
    a (ix2 r d) * Ideal.rsqrt (∑ x : Fin 128, a (ix2 r x) * a (ix2 r x) * st0 (ix2 x d) +
            ∑ x : Fin 128, (a (ix2 r x) * a (ix2 r x) - a (ix2 r x) * a (ix2 r x)) * st0 (ix2 x d) +
          (Consts.eps : EReal) *
              (∑ x : Fin 128, a (ix2 r x) * st1 (ix2 x d) + ∑ x : Fin 128, (a (ix2 r x) - a (ix2 r x)) * st1 (ix2 x d)) *
            (∑ x : Fin 128, a (ix2 r x) * st1 (ix2 x d) + ∑ x : Fin 128, (a (ix2 r x) - a (ix2 r x)) * st1 (ix2 x d))) := by
  unfold nrmT
  pointwise
  rw [Consts.ofBits_eps]

theorem finT_apply (g : Vec Ideal S1x256 .f32) (r : Fin 512) (c : Fin 256) : finT a g (ix2 r c)
    = a (ix2 ⟨c.val / 64 * 512 + r.val, by omega⟩ ⟨c.val % 64, by omega⟩) * g (ix2 0 c) := by
  unfold finT
  pointwise
  congr 1
  have hc := c.isLt
  split_ifs <;> refine congrArg a ?_ <;> refine congrArg₂ ix2 (Fin.ext ?_) (Fin.ext ?_) <;> dsimp only <;> omega

end Cert.AttnIdeal.Block

end
-- ==== Proof.BlockEq.lean ====
module

public import proofs.«01_k».proof.Proof.Block

@[expose] public section

set_option maxRecDepth 16384

noncomputable section

namespace Cert.AttnIdeal.Block

open Cert.AttnIdeal Cert.AttnIdeal.Gen Idealize.ShloMosaic Idealize.ShloMosaic.Pointwise

variable {F : FTy → Type} [FloatOps F] [Named F]

section
variable (q0 : Vec F S1x4x512x64 .f32) (Q : FVec F S2048x64 .bf16) (K1 K2 K3 K4 : Vec F S1x1x512x64 .bf16) (W1 W2 W3 : Vec F S1x1x512x128 .bf16)
  (m1 : FVec F S2048x1 .f32) (a1 : FVec F S2048x128 .f32)

theorem pay5_eq : k0_pay5 q0 K1 = mxT (k0_pay2 q0) K1 (k0_pay3 (F := F)) := rfl
theorem pay6_eq : k0_pay6 q0 K1 W1 = acT (k0_pay2 q0) K1 W1 (k0_pay3 (F := F)) ac0 := rfl
theorem pay7_eq : k0_pay7 q0 K1 = scT (k0_pay2 q0) K1 := rfl
theorem pay8_eq : k0_pay8 q0 K1 K2 = mxT (k0_pay2 q0) K2 (mxT (k0_pay2 q0) K1 (k0_pay3 (F := F))) := rfl
theorem pay9_eq : k0_pay9 q0 K1 K2 = broadcastTo S2048x512 (mxT (k0_pay2 q0) K2 (mxT (k0_pay2 q0) K1 (k0_pay3 (F := F)))) broadcasts_S2048x1_S2048x512 := rfl
theorem pay11_eq : k0_pay11 Q m1 K1 = mxT Q K1 m1 := rfl
theorem pay12_eq : k0_pay12 Q m1 a1 (scT Q K1) (mxT Q K1 m1) (broadcastTo S2048x512 (mxT Q K1 m1) broadcasts_S2048x1_S2048x512) W1 K2 W2
    = acT Q K2 W2 (mxT Q K1 m1) (acT Q K1 W1 m1 a1) := rfl
theorem pay14_eq : k0_pay14 Q m1 K1 K2 = mxT Q K2 (mxT Q K1 m1) := rfl
theorem pay18_eq : k0_pay18 Q (mxT Q K1 m1) a1 (mxT Q K2 (mxT Q K1 m1)) (k0_pay15 Q m1 K1 K2) W1 K3 W2
    = acT Q K3 W2 (mxT Q K2 (mxT Q K1 m1)) (acT Q K2 W1 (mxT Q K1 m1) a1) := rfl
theorem pay20_eq : k0_pay20 Q m1 K1 K2 = mxT Q K2 (mxT Q K1 m1) := rfl
theorem pay25_eq : k0_pay25 Q a1 (mxT Q K2 (mxT Q K1 m1)) (k0_pay21 Q m1 K1 K2) (k0_pay22 Q m1 K1 K2) W1 K3 W2
    = acT Q K3 W2 (mxT Q K2 (mxT Q K1 m1)) (acT Q K2 W1 (mxT Q K1 m1) a1) := rfl
theorem pay30_eq (st0 st1 : Vec F S128x128 .bf16) (g : Vec F S1x256 .f32) :
    k0_pay30 a1 (k0_pay28 Q m1 K1 K2) (k0_pay29 Q m1 K1 K2) W1 st0 st0 st1 st1 g
      = finT (nrmT (acT Q K2 W1 (mxT Q K1 m1) a1) st0 st1) g := rfl
end

/-- The running greatest score after the first `n` chunks. -/
def mxs (Q : FVec F S2048x64 .bf16) (K : ℕ → Vec F S1x1x512x64 .bf16) : ℕ → FVec F S2048x1 .f32
  | 0 => k0_pay3 (F := F)
  | n + 1 => mxT Q (K n) (mxs Q K n)

/-- The running weighted sums after the first `n` chunks. -/
def acs (Q : FVec F S2048x64 .bf16) (K : ℕ → Vec F S1x1x512x64 .bf16) (W : ℕ → Vec F S1x1x512x128 .bf16) : ℕ → FVec F S2048x128 .f32
  | 0 => ac0
  | n + 1 => acT Q (K n) (W n) (mxs Q K n) (acs Q K W n)

/-- Chunk `n` of a head's keys. -/
def kch (x : Vec F S1x1x4096x64 .bf16) : ℕ → Vec F S1x1x512x64 .bf16
  | 0 => View.ld x r0_1
  | 1 => View.ld x r0_3
  | 2 => View.ld x r0_5
  | 3 => View.ld x r0_7
  | 4 => View.ld x r0_9
  | 5 => View.ld x r0_11
  | 6 => View.ld x r0_13
  | _ => View.ld x r0_15

/-- Chunk `n` of a head's values. -/
def vch (x : Vec F S1x1x4096x128 .bf16) : ℕ → Vec F S1x1x512x128 .bf16
  | 0 => View.ld x r0_2
  | 1 => View.ld x r0_4
  | 2 => View.ld x r0_6
  | 3 => View.ld x r0_8
  | 4 => View.ld x r0_10
  | 5 => View.ld x r0_12
  | 6 => View.ld x r0_14
  | _ => View.ld x r0_16

/-- What a grid point leaves in its output block: eight chunks, the head norm and the gain. -/
theorem out0_5_eq (x0 : Vec F S1x4x512x64 .f32) (x1 : Vec F S1x1x4096x64 .bf16) (x2 : Vec F S1x1x4096x128 .bf16) (x3 : Vec F S1x256 .f32)
    (x4 : Vec F S128x256 .bf16) : out0_5 x0 x1 x2 x3 x4 = View.canon [⟨r0_20, k0_pay1 (finT
      (nrmT (acs (k0_pay2 (View.ld x0 r0_0)) (kch x1) (vch x2) 8) (View.ld x4 r0_17) (View.ld x4 r0_18)) (View.ld x3 r0_19))⟩] := by
  unfold_out out0_5
  generalize View.ld x0 r0_0 = q0
  simp only [pay5_eq, pay6_eq, pay7_eq, pay8_eq, pay9_eq, pay11_eq, pay14_eq, pay20_eq]
  rw [pay12_eq, pay18_eq, pay25_eq, pay30_eq]
  rfl

end Cert.AttnIdeal.Block

end
-- ==== Proof.Row.lean ====
module

public import proofs.«01_k».proof.Proof.BlockEq
public import Idealize.ShloMosaic.Lib.Pipeline.Value

@[expose] public section

set_option maxRecDepth 16384

noncomputable section

namespace Cert.AttnIdeal.Block

open Cert.AttnIdeal Cert.AttnIdeal.Gen Idealize.ShloMosaic Idealize.ShloMosaic.Pointwise

/-- The scale of the scores in base two. -/
def scale : ℝ := (8 * Real.log 2)⁻¹

theorem named_scale : (Named.named (F := Ideal) κ "scale" 0x3E38AA3B#32 : Ideal .f32) = (scale : EReal) :=
  IdealRules.named_const.ideal_named_scalar _ _ _ _ rfl

/-- The scaled queries: row `512 g + r` of the matrix is row `r` of the block's head `g`. -/
theorem pay2_apply (x : Vec Ideal S1x4x512x64 .f32) (g : Fin 4) (r : Fin 512) (e : Fin 64) :
    k0_pay2 x (ix2 ⟨g.val * 512 + r.val, by omega⟩ e) = x (ix4 0 g r e) * (scale : EReal) := by
  pointwise [k0_pay2]
  rw [named_scale]

theorem kch_apply (x : Vec Ideal S1x1x4096x64 .bf16) (n : ℕ) (hn : n < 8) (t : Fin 512) (e : Fin 64) :
    kch x n (ix4 0 0 t e) = x (ix4 0 0 ⟨512 * n + t.val, by omega⟩ e) := by
  have ht := t.isLt
  match n, hn with
  | 0, _ | 1, _ | 2, _ | 3, _ | 4, _ | 5, _ | 6, _ | 7, _ =>
    refine congrArg x (funext fun a => Fin.ext ?_)
    match a with
    | ⟨0, _⟩ => rfl
    | ⟨1, _⟩ => rfl
    | ⟨2, _⟩ => exact congrArg (_ + ·) (Nat.one_mul t.val)
    | ⟨3, _⟩ => show 0 + 1 * e.val = e.val; omega

theorem vch_apply (x : Vec Ideal S1x1x4096x128 .bf16) (n : ℕ) (hn : n < 8) (t : Fin 512) (e : Fin 128) :
    vch x n (ix4 0 0 t e) = x (ix4 0 0 ⟨512 * n + t.val, by omega⟩ e) := by
  have ht := t.isLt
  match n, hn with
  | 0, _ | 1, _ | 2, _ | 3, _ | 4, _ | 5, _ | 6, _ | 7, _ =>
    refine congrArg x (funext fun a => Fin.ext ?_)
    match a with
    | ⟨0, _⟩ => rfl
    | ⟨1, _⟩ => rfl
    | ⟨2, _⟩ => exact congrArg (_ + ·) (Nat.one_mul t.val)
    | ⟨3, _⟩ => show 0 + 1 * e.val = e.val; omega

/-- The running state of row `R` after `n` chunks, when queries, keys and values are real. -/
theorem state (Q : FVec Ideal S2048x64 .bf16) (x1 : Vec Ideal S1x1x4096x64 .bf16) (x2 : Vec Ideal S1x1x4096x128 .bf16) (R : Fin 2048)
    (qr : Fin 64 → ℝ) (kr : ℕ → Fin 64 → ℝ) (wr : ℕ → Fin 128 → ℝ) (hq : ∀ e, Q (ix2 R e) = (qr e : EReal))
    (hk : ∀ (t : ℕ) (ht : t < 4096) e, x1 (ix4 0 0 ⟨t, ht⟩ e) = (kr t e : EReal))
    (hw : ∀ (t : ℕ) (ht : t < 4096) d, x2 (ix4 0 0 ⟨t, ht⟩ d) = (wr t d : EReal)) :
    ∀ n : ℕ, n ≤ 8 → Softmax.St (fun t => ∑ e, qr e * kr t e) wr (512 * n)
      (mxs Q (kch x1) n (ix2 R 0)) (fun d => acs Q (kch x1) (vch x2) n (ix2 R d))
  | 0, _ => .inl ⟨rfl, by
      show Ideal.ofBits .f32 0xFF800000#32 = ⊥
      exact Consts.ofBits_ninf, fun d => by
      show Ideal.ofBits .f32 0x00000000#32 = 0
      rw [Consts.ofBits_zero]; rfl⟩
  | n + 1, hn => by
    have ih := state Q x1 x2 R qr kr wr hq hk hw n (by omega)
    have h := ih.step (k := 512) (by norm_num) (fun t => scT Q (kch x1 n) (ix2 R t))
      (fun t => by
        rw [scT_apply, zero_add, ← Softmax.coe_sum]
        refine Finset.sum_congr rfl fun e _ => ?_
        rw [kch_apply x1 n (by omega), hk, hq, ← EReal.coe_mul])
      (fun t d => vch x2 n (ix4 0 0 t d)) (fun t d => by rw [vch_apply x2 n (by omega), hw])
      (mxs Q (kch x1) (n + 1) (ix2 R 0)) (mxT_apply _ _ _ _)
      (fun d => acs Q (kch x1) (vch x2) (n + 1) (ix2 R d)) (fun d => acT_apply _ _ _ _ _ _ _)
    exact h

/-- A row of the norm's matrix against a row of squares keeps the 64 value columns. -/
theorem sum_first (A : Fin 128 → ℝ) : ∑ x : Fin 128, A x * (if x.val < 64 then 1 / 64 else 0)
    = ∑ e : Fin 64, A ⟨e.val, by omega⟩ * (1 / 64) := by
  refine (Fin.sum_univ_add (a := 64) (b := 64) _).trans ?_
  rw [Finset.sum_eq_zero (s := Finset.univ) (f := fun i : Fin 64 => A (Fin.natAdd 64 i) * _), add_zero]
  · refine Finset.sum_congr rfl fun e _ => ?_
    rw [if_pos (by simp)]
    rfl
  · intro i _
    rw [if_neg (by simp), mul_zero]

/-- Its other half picks out the column of the weights. -/
theorem sum_64 (A : Fin 128 → ℝ) : ∑ x : Fin 128, A x * (if x.val = 64 then 1 else 0) = A ⟨64, by omega⟩ := by
  rw [Finset.sum_eq_single ⟨64, by omega⟩]
  · simp
  · intro b _ hb
    rw [if_neg fun h => hb (Fin.ext h), mul_zero]
  · intro h; exact absurd (Finset.mem_univ _) h

/-- One entry of the normed sums: the softmax mean with its head norm. -/
theorem nrm_eq (Q : FVec Ideal S2048x64 .bf16) (x1 : Vec Ideal S1x1x4096x64 .bf16) (x2 : Vec Ideal S1x1x4096x128 .bf16) (R : Fin 2048)
    (st0 st1 : Vec Ideal S128x128 .bf16)
    (h0 : ∀ x d : Fin 128, st0 (ix2 x d) = ((if x.val < 64 then 1 / 64 else 0 : ℝ) : EReal))
    (h1 : ∀ x d : Fin 128, st1 (ix2 x d) = ((if x.val = 64 then 1 else 0 : ℝ) : EReal))
    (qr : Fin 64 → ℝ) (kr : ℕ → Fin 64 → ℝ) (vr : ℕ → Fin 64 → ℝ) (hq : ∀ e, Q (ix2 R e) = (qr e : EReal) * (scale : EReal))
    (hk : ∀ (t : ℕ) (ht : t < 4096) e, x1 (ix4 0 0 ⟨t, ht⟩ e) = (kr t e : EReal))
    (hv : ∀ (t : ℕ) (ht : t < 4096) (d : Fin 64), x2 (ix4 0 0 ⟨t, ht⟩ ⟨d.val, by omega⟩) = (vr t d : EReal))
    (h64 : ∀ (t : ℕ) (ht : t < 4096), x2 (ix4 0 0 ⟨t, ht⟩ ⟨64, by omega⟩) = 1)
    (hrest : ∀ (t : ℕ) (ht : t < 4096) (d : Fin 128), 64 < d.val → x2 (ix4 0 0 ⟨t, ht⟩ d) = 0) (d : Fin 64) :
    nrmT (acs Q (kch x1) (vch x2) 8) st0 st1 (ix2 R ⟨d.val, by omega⟩)
      = ((Softmax.normed Consts.eps (fun t : Fin 4096 => (∑ e, qr e * kr t e) * (1 / 8)) (fun t => vr t) d : ℝ) : EReal) := by
  let wr : ℕ → Fin 128 → ℝ := fun t d => if h : d.val < 64 then vr t ⟨d.val, h⟩ else if d.val = 64 then 1 else 0
  have hst := state Q x1 x2 R (fun e => qr e * scale) kr wr (fun e => by rw [hq, EReal.coe_mul]) hk (fun t ht d => by
    by_cases h : d.val < 64
    · simp only [wr, dif_pos h]; exact hv t ht ⟨d.val, h⟩
    · by_cases h' : d.val = 64
      · simp only [wr, dif_neg h, if_pos h']
        have e : d = ⟨64, by omega⟩ := Fin.ext h'
        rw [e]
        exact (h64 t ht)
      · simp only [wr, dif_neg h, if_neg h']
        exact hrest t ht d (by omega)) 8 le_rfl
  rcases hst with ⟨h, -⟩ | ⟨M, -, ha⟩
  · exact absurd h (by norm_num)
  let A : Fin 128 → ℝ := fun d => ∑ t ∈ Finset.range (512 * 8), (2 : ℝ) ^ ((∑ e, qr e * scale * kr t e) - M) * wr t d
  have ha' : ∀ d, acs Q (kch x1) (vch x2) 8 (ix2 R d) = (A d : EReal) := ha
  rw [nrmT_apply]
  simp only [ha', h0, h1, ← EReal.coe_mul, ← EReal.coe_sub, Softmax.coe_sum, ← EReal.coe_add, sub_self, zero_mul,
    Finset.sum_const_zero, add_zero]
  rw [sum_first (fun x => A x * A x), sum_64 A]
  have hkn := Softmax.kernel_normed (n := 4096) (by norm_num) Consts.eps (fun t => (∑ e, qr e * kr t e) * (1 / 8)) (fun t => vr t)
    (fun t => ∑ e, qr e * scale * kr t e) (fun t => by
      have hl : Real.log 2 ≠ 0 := (Real.log_pos (by norm_num)).ne'
      rw [Finset.sum_mul, Finset.sum_mul]
      refine Finset.sum_congr rfl fun e _ => ?_
      unfold scale
      field_simp) M (fun e => A ⟨e.val, by omega⟩) (A ⟨64, by omega⟩)
    (fun e => by
      simp only [A]
      rw [show (512 * 8 : ℕ) = 4096 from rfl, Finset.sum_range]
      refine Finset.sum_congr rfl fun t _ => ?_
      simp only [wr, e.isLt, dif_pos])
    (by
      simp only [A]
      rw [show (512 * 8 : ℕ) = 4096 from rfl, Finset.sum_range]
      refine Finset.sum_congr rfl fun t _ => ?_
      simp [wr]) d
  have hpos : 0 < (∑ e : Fin 64, A ⟨e.val, by omega⟩ * A ⟨e.val, by omega⟩ * (1 / 64)) + Consts.eps * A ⟨64, by omega⟩ * A ⟨64, by omega⟩ :=
    add_pos_of_nonneg_of_pos (Finset.sum_nonneg fun e _ => mul_nonneg (mul_self_nonneg _) (by norm_num))
      (mul_pos (mul_pos Consts.eps_pos hkn.2) hkn.2)
  rw [Ideal.rsqrt_coe, if_neg (not_lt.mpr hpos.le), if_neg hpos.ne', ← EReal.coe_mul, hkn.1]

/-- One entry of a grid point's output block. -/
theorem out_eq (x0 : Vec Ideal S1x4x512x64 .f32) (x1 : Vec Ideal S1x1x4096x64 .bf16) (x2 : Vec Ideal S1x1x4096x128 .bf16) (x3 : Vec Ideal S1x256 .f32)
    (x4 : Vec Ideal S128x256 .bf16)
    (h4 : ∀ (x : Fin 128) (d : Fin 256), x4 (ix2 x d)
      = if d.val < 128 then ((if x.val < 64 then 1 / 64 else 0 : ℝ) : EReal) else ((if x.val = 64 then 1 else 0 : ℝ) : EReal))
    (qr : Fin 4 → Fin 512 → Fin 64 → ℝ) (kr : ℕ → Fin 64 → ℝ) (vr : ℕ → Fin 64 → ℝ)
    (hq : ∀ g r e, x0 (ix4 0 g r e) = (qr g r e : EReal))
    (hk : ∀ (t : ℕ) (ht : t < 4096) e, x1 (ix4 0 0 ⟨t, ht⟩ e) = (kr t e : EReal))
    (hv : ∀ (t : ℕ) (ht : t < 4096) (d : Fin 64), x2 (ix4 0 0 ⟨t, ht⟩ ⟨d.val, by omega⟩) = (vr t d : EReal))
    (h64 : ∀ (t : ℕ) (ht : t < 4096), x2 (ix4 0 0 ⟨t, ht⟩ ⟨64, by omega⟩) = 1)
    (hrest : ∀ (t : ℕ) (ht : t < 4096) (d : Fin 128), 64 < d.val → x2 (ix4 0 0 ⟨t, ht⟩ d) = 0) (r : Fin 512) (g : Fin 4) (d : Fin 64) :
    out0_5 x0 x1 x2 x3 x4 (ix3 0 r ⟨g.val * 64 + d.val, by omega⟩)
      = ((Softmax.normed Consts.eps (fun t : Fin 4096 => (∑ e, qr g r e * kr t e) * (1 / 8)) (fun t => vr t) d : ℝ) : EReal)
        * x3 (ix2 0 ⟨g.val * 64 + d.val, by omega⟩) := by
  have z4 : (![0, 0, 0, 0] : Fin 4 → Nat) = fun _ => 0 := by decide
  have z3 : (![0, 0, 0] : Fin 3 → Nat) = fun _ => 0 := by decide
  have z2 : (![0, 0] : Fin 2 → Nat) = fun _ => 0 := by decide
  rw [out0_5_eq, View.canon_unit_zero (S := S1x512x256) z3, View.ld_unit_zero (S := S1x4x512x64) z4, View.ld_unit_zero (S := S1x256) z2]
  generalize hn : nrmT (acs (k0_pay2 x0) (kch x1) (vch x2) 8) (View.ld x4 r0_17) (View.ld x4 r0_18) = nt
  have hp : ∀ (f : FVec Ideal S512x256 .bf16) (c : Fin 256), k0_pay1 f (ix3 0 r c) = f (ix2 r c) := fun f c => by
    pointwise [k0_pay1]
  rw [hp, finT_apply]
  refine congrArg (· * x3 (ix2 0 ⟨g.val * 64 + d.val, by omega⟩)) ?_
  rw [← hn]
  have e1 : (⟨(g.val * 64 + d.val) / 64 * 512 + r.val, by omega⟩ : Fin 2048) = ⟨g.val * 512 + r.val, by omega⟩ := Fin.ext (by dsimp only; omega)
  have e2 : (⟨(g.val * 64 + d.val) % 64, by omega⟩ : Fin 128) = ⟨d.val, by omega⟩ := Fin.ext (by dsimp only; omega)
  rw [e1, e2]
  refine nrm_eq _ x1 x2 _ _ _ (fun x d => ?_) (fun x d => ?_) (qr g r) kr vr (fun e => ?_) hk hv h64 hrest d
  · rw [show View.ld x4 r0_17 (ix2 x d) = x4 (ix2 x ⟨d.val, by omega⟩) from congrArg x4 (funext fun a => Fin.ext (by
      match a with
      | ⟨0, _⟩ => show 0 + 1 * x.val = x.val; omega
      | ⟨1, _⟩ => show 0 + 1 * d.val = d.val; omega)), h4, if_pos d.isLt]
  · rw [show View.ld x4 r0_18 (ix2 x d) = x4 (ix2 x ⟨128 + d.val, by omega⟩) from congrArg x4 (funext fun a => Fin.ext (by
      match a with
      | ⟨0, _⟩ => show 0 + 1 * x.val = x.val; omega
      | ⟨1, _⟩ => show 128 + 1 * d.val = 128 + d.val; omega)), h4, if_neg (by dsimp only; omega)]
  · rw [pay2_apply, hq]

end Cert.AttnIdeal.Block

end
-- ==== Proof.Lit.lean ====
module

public import proofs.«01_k».proof.AttnIdeal
public import Mathlib.Tactic.IntervalCases

@[expose] public section

set_option maxRecDepth 16384
set_option Elab.async false

namespace Cert.AttnIdeal.Block

open Cert.AttnIdeal

/-- Three kinds of table rows: all 1/64, all 0, all 1. -/
theorem lit_a (i : ℕ) : lit0t0_0 i = 0x3C80#16 := by
  have h : ∀ n : Fin 128, lit0t0_0 n.val = 0x3C80#16 := by decide +kernel
  have e : lit0t0_0 i = lit0t0_0 (i % 128) := by unfold lit0t0_0; rw [Nat.mod_mod]
  rw [e]; exact h ⟨i % 128, Nat.mod_lt _ (by decide)⟩

theorem lit_z (i : ℕ) : lit0t0_1 i = 0x0000#16 := by
  have h : ∀ n : Fin 128, lit0t0_1 n.val = 0x0000#16 := by decide +kernel
  have e : lit0t0_1 i = lit0t0_1 (i % 128) := by unfold lit0t0_1; rw [Nat.mod_mod]
  rw [e]; exact h ⟨i % 128, Nat.mod_lt _ (by decide)⟩

theorem lit_o (i : ℕ) : lit0t0_129 i = 0x3F80#16 := by
  have h : ∀ n : Fin 128, lit0t0_129 n.val = 0x3F80#16 := by decide +kernel
  have e : lit0t0_129 i = lit0t0_129 (i % 128) := by unfold lit0t0_129; rw [Nat.mod_mod]
  rw [e]; exact h ⟨i % 128, Nat.mod_lt _ (by decide)⟩

theorem lit_lo (i : ℕ) : lit0t1_0 i = if i / 128 % 128 % 2 = 0 then 0x3C80#16 else 0x0000#16 := by
  unfold lit0t1_0
  have hn : i / 128 % 128 < 128 := Nat.mod_lt _ (by decide)
  generalize i / 128 % 128 = n at hn
  interval_cases n
  all_goals first | exact lit_a i | exact lit_z i

theorem lit_hi (i : ℕ) : lit0t1_1 i = if i / 128 % 128 = 1 then 0x3F80#16 else 0x0000#16 := by
  unfold lit0t1_1
  have hn : i / 128 % 128 < 128 := Nat.mod_lt _ (by decide)
  generalize i / 128 % 128 = n at hn
  interval_cases n
  all_goals first | exact lit_z i | exact lit_o i

theorem lit_eq (i : Fin 32768) : lit0 i = if i.val < 16384 then (if i.val / 128 % 128 % 2 = 0 then 0x3C80#16 else 0x0000#16)
    else (if i.val / 128 % 128 = 1 then 0x3F80#16 else 0x0000#16) := by
  obtain ⟨i, hi⟩ := i
  show lit0t i = _
  unfold lit0t
  have hn : i / 16384 < 2 := by omega
  generalize he : i / 16384 = n at hn
  interval_cases n
  · rw [if_pos (by dsimp only; omega)]; exact lit_lo i
  · rw [if_neg (by dsimp only; omega)]; exact lit_hi i

end Cert.AttnIdeal.Block

end
-- ==== Proof.Host.lean ====
module

public import proofs.«01_k».proof.Proof.Gen.AttnIdeal.Frame
public import proofs.«01_k».proof.Proof.Consts
public import proofs.«01_k».proof.Proof.Lit
public import Idealize.ShloMosaic.Lib.Pointwise
public import Idealize.ShloMosaic.Lib.StableHlo.ReadAt

@[expose] public section

set_option maxRecDepth 16384

noncomputable section

namespace Cert.AttnIdeal.Block

open Cert.AttnIdeal Cert.AttnIdeal.Gen Idealize.ShloMosaic Idealize.ShloMosaic.TcCoe Idealize.ShloMosaic.Pointwise Idealize.SL.Sem

variable (m : (ℓ : Loc nD τ sig) → Buf (Elt Ideal) ℓ)

/-- The keys the region is entered with are the argument's. -/
theorem V_k (c : Dev nD) (i : S8x2x4096x64.Idx) : (V m c main_v4 : FVec Ideal S8x2x4096x64 .bf16) i
    = (m ((c : Thread nD τ).loc main_arg1) : FVec Ideal S8x2x4096x64 .f32) i := by
  unfold V
  after_reads_at
  all_goals rfl

/-- The values the region is entered with: the argument's in columns 0–63, -/
theorem V_v (c : Dev nD) (b : Fin 8) (h : Fin 2) (t : Fin 4096) (d : Fin 128) :
    (V m c main_v3 : FVec Ideal S8x2x4096x128 .bf16) (ix4 b h t d)
    = if hd : d.val < 64 then (m ((c : Thread nD τ).loc main_arg2) : FVec Ideal S8x2x4096x64 .f32) (ix4 b h t ⟨d.val, hd⟩)
      else (if d.val = 64 then (1 : EReal) else (0 : EReal) : EReal) := by
  have e : (V m c main_v3 : FVec Ideal S8x2x4096x128 .bf16)
      = truncf .bf16 (concatenate S8x2x4096x128 3 [⟨S8x2x4096x64, (m ((c : Thread nD τ).loc main_arg2) : FVec Ideal S8x2x4096x64 .f32)⟩,
          ⟨S8x2x4096x1, broadcastInDim S8x2x4096x1 ![] bcast_S_S8x2x4096x1 (constant (F := Ideal) S_ .f32 0x3F800000#32)⟩,
          ⟨S8x2x4096x63, broadcastInDim S8x2x4096x63 ![] bcast_S_S8x2x4096x63 (constant (F := Ideal) S_ .f32 0x00000000#32)⟩]
            concatenates_S8x2x4096x64_S8x2x4096x1_S8x2x4096x63_S8x2x4096x128_d3) bitsLt_bf16_f32 := by
    unfold V
    after_results_simp
    rfl
  rw [e]
  generalize (m ((c : Thread nD τ).loc main_arg2) : FVec Ideal S8x2x4096x64 .f32) = w
  pointwise
  by_cases h1 : d.val < 64
  · simp only [h1, dif_pos]
  · by_cases h2 : d.val = 64
    · simp [h2]
    · simp only [h1, h2, dif_neg, not_false_eq_true, if_neg, show ¬ d.val - 64 < 1 by omega]

/-- The norm's matrix: 1/64 in the first 64 rows of the left half, 1 in row 64 of the right half, 0 elsewhere. -/
theorem V_st (c : Dev nD) (x : Fin 128) (d : Fin 256) : (V m c main_cst : FVec Ideal S128x256 .bf16) (ix2 x d)
    = if d.val < 128 then ((if x.val < 64 then 1 / 64 else 0 : ℝ) : EReal) else ((if x.val = 64 then 1 else 0 : ℝ) : EReal) := by
  have e : (V m c main_cst : FVec Ideal S128x256 .bf16) (ix2 x d) = Ideal.ofBits .bf16 (lit0 (S128x256.rowMajor (ix2 x d))) := by
    unfold V
    after_reads_simp
    rfl
  have hr : (S128x256.rowMajor (ix2 x d)).val = x.val * 256 + d.val := by rw [Shape.rowMajor_val_two]; rfl
  rw [e]
  refine (congrArg (Ideal.ofBits .bf16) (lit_eq _)).trans ?_
  rw [hr]
  have hd := d.isLt
  rw [show (x.val * 256 + d.val) / 128 % 128 % 2 = d.val / 128 by omega]
  rw [show (x.val * 256 + d.val) / 128 % 128 = x.val * 2 % 128 + d.val / 128 by omega]
  split_ifs <;> first | exact Consts.ofBits_bf16_zero | exact Consts.ofBits_bf16_one | exact Consts.ofBits_bf16_64th | (exfalso; omega)

end Cert.AttnIdeal.Block

end
-- ==== Proof.Array.lean ====
module

public import proofs.«01_k».proof.Proof.Row
public import proofs.«01_k».proof.Proof.Host
public import proofs.«01_k».proof.Proof.Gen.AttnIdeal.Value

@[expose] public section

set_option maxRecDepth 16384

noncomputable section

namespace Cert.AttnIdeal.Block

open Cert.AttnIdeal Cert.AttnIdeal.Gen Idealize.ShloMosaic Idealize.ShloMosaic.TcCoe Idealize.ShloMosaic.Pointwise Idealize.SL.Sem

/-! ## Where each grid point's blocks lie -/

theorem idx0 : ∀ t : Fin cfg0.N, win0_0.index t 0 = t.val / 16 ∧ win0_0.index t 1 = t.val / 8 % 2 ∧ win0_0.index t 2 = t.val % 8 ∧ win0_0.index t 3 = 0 :=
  (by decide +kernel : ∀ t : Fin grid0.N, _)
theorem idx1 : ∀ t : Fin cfg0.N, win0_1.index t 0 = t.val / 16 ∧ win0_1.index t 1 = t.val / 8 % 2 ∧ win0_1.index t 2 = 0 ∧ win0_1.index t 3 = 0 :=
  (by decide +kernel : ∀ t : Fin grid0.N, _)
theorem idx2 : ∀ t : Fin cfg0.N, win0_2.index t 0 = t.val / 16 ∧ win0_2.index t 1 = t.val / 8 % 2 ∧ win0_2.index t 2 = 0 ∧ win0_2.index t 3 = 0 :=
  (by decide +kernel : ∀ t : Fin grid0.N, _)
theorem idx3 : ∀ t : Fin cfg0.N, win0_3.index t 0 = 0 ∧ win0_3.index t 1 = t.val / 8 % 2 :=
  (by decide +kernel : ∀ t : Fin grid0.N, _)
theorem idx4 : ∀ t : Fin cfg0.N, win0_4.index t 0 = 0 ∧ win0_4.index t 1 = 0 :=
  (by decide +kernel : ∀ t : Fin grid0.N, _)
theorem idx5 : ∀ t : Fin cfg0.N, win0_5.index t 0 = t.val / 16 ∧ win0_5.index t 1 = t.val % 8 ∧ win0_5.index t 2 = t.val / 8 % 2 :=
  (by decide +kernel : ∀ t : Fin grid0.N, _)

theorem tlt (t : Fin cfg0.N) : t.val < 128 := t.isLt

variable (m : (ℓ : Loc nD τ sig) → Buf (Elt Ideal) ℓ) (c : Dev nD)

theorem blk0 (t : Fin cfg0.N) (g : Fin 4) (r : Fin 512) (e : Fin 64) : (iblk m c 0 t : Vec Ideal S1x4x512x64 .f32) (ix4 0 g r e)
    = (m ((c : Thread nD τ).loc main_arg0) : FVec Ideal S8x8x4096x64 .f32)
        (ix4 ⟨t.val / 16, by have := tlt t; omega⟩ ⟨t.val / 8 % 2 * 4 + g.val, by omega⟩ ⟨t.val % 8 * 512 + r.val, by omega⟩ e) := by
  refine Eq.trans ?_ (congrFun (V_main_arg0 m c) _)
  refine congrArg (V m c main_arg0) (funext fun a => Fin.ext ?_)
  obtain ⟨h0, h1, h2, h3⟩ := idx0 t
  match a with
  | ⟨0, _⟩ => refine (win0_0.rect_emb_val t (ix4 0 g r e) 0).trans ?_; rw [h0]; show t.val / 16 * 1 + 0 = t.val / 16; omega
  | ⟨1, _⟩ => refine (win0_0.rect_emb_val t (ix4 0 g r e) 1).trans ?_; rw [h1]; rfl
  | ⟨2, _⟩ => refine (win0_0.rect_emb_val t (ix4 0 g r e) 2).trans ?_; rw [h2]; rfl
  | ⟨3, _⟩ => refine (win0_0.rect_emb_val t (ix4 0 g r e) 3).trans ?_; rw [h3]; show 0 * 64 + e.val = e.val; omega

theorem blk1 (t : Fin cfg0.N) (s : Fin 4096) (e : Fin 64) : (iblk m c 1 t : Vec Ideal S1x1x4096x64 .bf16) (ix4 0 0 s e)
    = (m ((c : Thread nD τ).loc main_arg1) : FVec Ideal S8x2x4096x64 .f32)
        (ix4 ⟨t.val / 16, by have := tlt t; omega⟩ ⟨t.val / 8 % 2, by omega⟩ s e) := by
  refine Eq.trans ?_ (V_k m c _)
  refine congrArg (V m c main_v4) (funext fun a => Fin.ext ?_)
  obtain ⟨h0, h1, h2, h3⟩ := idx1 t
  match a with
  | ⟨0, _⟩ => refine (win0_1.rect_emb_val t (ix4 0 0 s e) 0).trans ?_; rw [h0]; show t.val / 16 * 1 + 0 = t.val / 16; omega
  | ⟨1, _⟩ => refine (win0_1.rect_emb_val t (ix4 0 0 s e) 1).trans ?_; rw [h1]; show t.val / 8 % 2 * 1 + 0 = t.val / 8 % 2; omega
  | ⟨2, _⟩ => refine (win0_1.rect_emb_val t (ix4 0 0 s e) 2).trans ?_; rw [h2]; show 0 * 4096 + s.val = s.val; omega
  | ⟨3, _⟩ => refine (win0_1.rect_emb_val t (ix4 0 0 s e) 3).trans ?_; rw [h3]; show 0 * 64 + e.val = e.val; omega

theorem blk2 (t : Fin cfg0.N) (s : Fin 4096) (d : Fin 128) : (iblk m c 2 t : Vec Ideal S1x1x4096x128 .bf16) (ix4 0 0 s d)
    = if hd : d.val < 64 then (m ((c : Thread nD τ).loc main_arg2) : FVec Ideal S8x2x4096x64 .f32)
        (ix4 ⟨t.val / 16, by have := tlt t; omega⟩ ⟨t.val / 8 % 2, by omega⟩ s ⟨d.val, hd⟩)
      else (if d.val = 64 then (1 : EReal) else (0 : EReal) : EReal) := by
  refine Eq.trans ?_ (V_v m c _ _ _ _)
  refine congrArg (V m c main_v3) (funext fun a => Fin.ext ?_)
  obtain ⟨h0, h1, h2, h3⟩ := idx2 t
  match a with
  | ⟨0, _⟩ => refine (win0_2.rect_emb_val t (ix4 0 0 s d) 0).trans ?_; rw [h0]; show t.val / 16 * 1 + 0 = t.val / 16; omega
  | ⟨1, _⟩ => refine (win0_2.rect_emb_val t (ix4 0 0 s d) 1).trans ?_; rw [h1]; show t.val / 8 % 2 * 1 + 0 = t.val / 8 % 2; omega
  | ⟨2, _⟩ => refine (win0_2.rect_emb_val t (ix4 0 0 s d) 2).trans ?_; rw [h2]; show 0 * 4096 + s.val = s.val; omega
  | ⟨3, _⟩ => refine (win0_2.rect_emb_val t (ix4 0 0 s d) 3).trans ?_; rw [h3]; show 0 * 128 + d.val = d.val; omega

theorem blk3 (t : Fin cfg0.N) (x : Fin 256) : (iblk m c 3 t : Vec Ideal S1x256 .f32) (ix2 0 x)
    = (m ((c : Thread nD τ).loc main_arg3) : FVec Ideal S1x512 .f32) (ix2 0 ⟨t.val / 8 % 2 * 256 + x.val, by omega⟩) := by
  refine Eq.trans ?_ (congrFun (V_main_arg3 m c) _)
  refine congrArg (V m c main_arg3) (funext fun a => Fin.ext ?_)
  obtain ⟨h0, h1⟩ := idx3 t
  match a with
  | ⟨0, _⟩ => refine (win0_3.rect_emb_val t (ix2 0 x) 0).trans ?_; rw [h0]; rfl
  | ⟨1, _⟩ => refine (win0_3.rect_emb_val t (ix2 0 x) 1).trans ?_; rw [h1]; rfl

theorem blk4 (t : Fin cfg0.N) (x : Fin 128) (d : Fin 256) : (iblk m c 4 t : Vec Ideal S128x256 .bf16) (ix2 x d)
    = if d.val < 128 then ((if x.val < 64 then 1 / 64 else 0 : ℝ) : EReal) else ((if x.val = 64 then 1 else 0 : ℝ) : EReal) := by
  refine Eq.trans ?_ (V_st m c _ _)
  refine congrArg (V m c main_cst) (funext fun a => Fin.ext ?_)
  obtain ⟨h0, h1⟩ := idx4 t
  match a with
  | ⟨0, _⟩ => refine (win0_4.rect_emb_val t (ix2 x d) 0).trans ?_; rw [h0]; show 0 * 128 + x.val = x.val; omega
  | ⟨1, _⟩ => refine (win0_4.rect_emb_val t (ix2 x d) 1).trans ?_; rw [h1]; show 0 * 256 + d.val = d.val; omega

/-! ## The whole result -/

variable (q : S8x8x4096x64.Idx → ℝ) (k v : S8x2x4096x64.Idx → ℝ) (g : FVec Ideal S1x512 .f32)

/-- The attention with its head norm and gain: batch `b`, position `l`, head `hh`, column `d`. -/
def attn (b : Fin 8) (l : Fin 4096) (hh : Fin 8) (d : Fin 64) : EReal :=
  ((Softmax.normed Consts.eps (fun s : Fin 4096 => (∑ e : Fin 64, q (ix4 b hh l e) * k (ix4 b ⟨hh.val / 4, by omega⟩ s e)) * (1 / 8))
    (fun s d => v (ix4 b ⟨hh.val / 4, by omega⟩ s d)) d : ℝ) : EReal) * g (ix2 0 ⟨hh.val * 64 + d.val, by omega⟩)

theorem attn_congr {b b' : Fin 8} {l l' : Fin 4096} {h h' : Fin 8} {d d' : Fin 64} (hb : b = b') (hl : l = l') (hh : h = h') (hd : d = d') :
    attn q k v g b l h d = attn q k v g b' l' h' d' := by rw [hb, hl, hh, hd]

/-- The same as an array: the result's columns are the heads' columns beside one another. -/
def attnArr : FVec Ideal S8x4096x512 .bf16 := fun i =>
  attn q k v g (i 0) (i 1) ⟨(i 2).val / 64, by have h : (i 2).val < 512 := (i 2).isLt; omega⟩ ⟨(i 2).val % 64, Nat.mod_lt _ (by decide)⟩

variable (hq : ∀ i, (m ((c : Thread nD τ).loc main_arg0) : FVec Ideal S8x8x4096x64 .f32) i = (q i : EReal))
  (hk : ∀ i, (m ((c : Thread nD τ).loc main_arg1) : FVec Ideal S8x2x4096x64 .f32) i = (k i : EReal))
  (hv : ∀ i, (m ((c : Thread nD τ).loc main_arg2) : FVec Ideal S8x2x4096x64 .f32) i = (v i : EReal))
  (hg : (m ((c : Thread nD τ).loc main_arg3) : FVec Ideal S1x512 .f32) = g)

include hq hk hv hg in
/-- Entry `(r, 64 h + d)` of what grid point `t` leaves in its output block. -/
theorem point_eq (t : Fin cfg0.N) (r : Fin 512) (h : Fin 4) (d : Fin 64) :
    out0_5 (iblk m c 0 t) (iblk m c 1 t) (iblk m c 2 t) (iblk m c 3 t) (iblk m c 4 t) (ix3 0 r ⟨h.val * 64 + d.val, by omega⟩)
      = attn q k v g ⟨t.val / 16, by have := tlt t; omega⟩ ⟨t.val % 8 * 512 + r.val, by omega⟩ ⟨t.val / 8 % 2 * 4 + h.val, by omega⟩ d := by
  have ht := tlt t
  have e2 : (⟨(t.val / 8 % 2 * 4 + h.val) / 4, by omega⟩ : Fin 2) = ⟨t.val / 8 % 2, by omega⟩ := Fin.ext (by dsimp only; omega)
  rw [out_eq (iblk m c 0 t) (iblk m c 1 t) (iblk m c 2 t) (iblk m c 3 t) (iblk m c 4 t) (blk4 m c t)
    (fun g r e => q (ix4 ⟨t.val / 16, by omega⟩ ⟨t.val / 8 % 2 * 4 + g.val, by omega⟩ ⟨t.val % 8 * 512 + r.val, by omega⟩ e))
    (fun s e => if hs : s < 4096 then k (ix4 ⟨t.val / 16, by omega⟩ ⟨t.val / 8 % 2, by omega⟩ ⟨s, hs⟩ e) else 0)
    (fun s e => if hs : s < 4096 then v (ix4 ⟨t.val / 16, by omega⟩ ⟨t.val / 8 % 2, by omega⟩ ⟨s, hs⟩ e) else 0)
    (fun g r e => by rw [blk0, hq])
    (fun s hs e => by rw [blk1, hk, dif_pos hs])
    (fun s hs d => by rw [blk2, dif_pos d.isLt, hv, dif_pos hs])
    (fun s hs => by rw [blk2, dif_neg (by dsimp only; omega), if_pos rfl])
    (fun s hs d hd => by rw [blk2, dif_neg (by omega), if_neg (by omega)]) r h d]
  rw [blk3, hg]
  unfold attn
  rw [e2]
  have e3 : (⟨t.val / 8 % 2 * 256 + (h.val * 64 + d.val), by omega⟩ : Fin 512) = ⟨(t.val / 8 % 2 * 4 + h.val) * 64 + d.val, by omega⟩ :=
    Fin.ext (by dsimp only; omega)
  rw [e3]
  simp only [Fin.is_lt, dif_pos, Fin.eta]

include hq hk hv hg in
theorem flushed_eq (t : Fin cfg0.N) : (dats m 0 c).flushed 5 t = (win0_5.blk t).view.read (Elt Ideal) (attnArr q k v g) := by
  rw [Value.flushed5]
  have ht := tlt t
  obtain ⟨h0, h1, h2⟩ := idx5 t
  refine funext fun (y : S1x512x256.Idx) => ?_
  have hy2 : (y 2).val < 256 := (y 2).isLt
  have ey : y = ix3 0 (y 1) ⟨(⟨(y 2).val / 64, by omega⟩ : Fin 4).val * 64 + (⟨(y 2).val % 64, by omega⟩ : Fin 64).val, by dsimp only; omega⟩ := by
    funext a
    match a with
    | ⟨0, _⟩ => exact Subsingleton.elim (α := Fin 1) _ _
    | ⟨1, _⟩ => rfl
    | ⟨2, _⟩ => exact Fin.ext (by show (y 2).val = (y 2).val / 64 * 64 + (y 2).val % 64; omega)
  refine ((congrArg (out0_5 (iblk m c 0 t) (iblk m c 1 t) (iblk m c 2 t) (iblk m c 3 t) (iblk m c 4 t)) ey).trans
    (point_eq m c q k v g hq hk hv hg t (y 1) ⟨(y 2).val / 64, by omega⟩ ⟨(y 2).val % 64, by omega⟩)).trans ?_
  have g0 : ((win0_5.rect t).emb y 0 : Nat) = t.val / 16 := by
    refine (win0_5.rect_emb_val t y 0).trans ?_
    have hy : (y 0).val < 1 := (y 0).isLt
    rw [h0]; show t.val / 16 * 1 + (y 0).val = _; omega
  have g1 : ((win0_5.rect t).emb y 1 : Nat) = t.val % 8 * 512 + (y 1).val := by
    refine (win0_5.rect_emb_val t y 1).trans ?_
    rw [h1]; rfl
  have g2 : ((win0_5.rect t).emb y 2 : Nat) = t.val / 8 % 2 * 256 + (y 2).val := by
    refine (win0_5.rect_emb_val t y 2).trans ?_
    rw [h2]; rfl
  exact attn_congr q k v g (Fin.ext g0.symm) (Fin.ext g1.symm)
    (Fin.ext (show t.val / 8 % 2 * 4 + (y 2).val / 64 = ((win0_5.rect t).emb y 2 : Nat) / 64 by rw [g2]; omega))
    (Fin.ext (show (y 2).val % 64 = ((win0_5.rect t).emb y 2 : Nat) % 64 by rw [g2]; omega))

theorem mem_blk (t : Fin cfg0.N) (i : S8x4096x512.Idx) :
    i ∈ ((cfg0.win 5).blk t).view.set ↔ ∀ a, win0_5.index t a * win0_5.size a ≤ (i a).val ∧ (i a).val < win0_5.index t a * win0_5.size a + win0_5.xsize (grid0.coords t) a := by
  show i ∈ ((View.whole main_v5).slice (win0_5.rect t)).set ↔ _
  rw [View.set_slice_whole, Rect.mem_set_unit]

theorem cover (i : S8x4096x512.Idx) : ∃ t : Fin cfg0.N, (cfg0.win 5).flush t = true ∧ i ∈ ((cfg0.win 5).blk t).view.set := by
  have i0 : (i 0).val < 8 := (i 0).isLt
  have i1 : (i 1).val < 4096 := (i 1).isLt
  have i2 : (i 2).val < 512 := (i 2).isLt
  let t : Fin cfg0.N := ⟨(i 0).val * 16 + (i 2).val / 256 * 8 + (i 1).val / 512, by show _ < 128; omega⟩
  refine ⟨t, flush0_5 t, ?_⟩
  rw [mem_blk]
  obtain ⟨h0, h1, h2⟩ := idx5 t
  have tv : t.val = (i 0).val * 16 + (i 2).val / 256 * 8 + (i 1).val / 512 := rfl
  rw [tv] at h0 h1 h2
  intro a
  match a with
  | ⟨0, _⟩ =>
    show win0_5.index t 0 * 1 ≤ (i 0).val ∧ (i 0).val < win0_5.index t 0 * 1 + 1
    rw [h0]; omega
  | ⟨1, _⟩ =>
    show win0_5.index t 1 * 512 ≤ (i 1).val ∧ (i 1).val < win0_5.index t 1 * 512 + 512
    rw [h1]; omega
  | ⟨2, _⟩ =>
    show win0_5.index t 2 * 256 ≤ (i 2).val ∧ (i 2).val < win0_5.index t 2 * 256 + 256
    rw [h2]; omega

include hq hk hv hg in
/-- After the run the result array is the attention. -/
theorem final_eq : (dats m 0 c).arrAt 5 cfg0.N = attnArr q k v g :=
  (dats m 0 c).arrAt_eq_of_cover 5 (attnArr q k v g) (fun t _ => flushed_eq m c q k v g hq hk hv hg t) cover

end Cert.AttnIdeal.Block

end
-- ==== Proof.RefArray.lean ====
/- The reference's whole result is the array the kernel's run ends with. -/
module

public import proofs.«01_k».proof.Proof.RefValue
public import proofs.«01_k».proof.Proof.Array

@[expose] public section

set_option maxRecDepth 16384

noncomputable section

namespace Cert.AttnRefIdeal.Ref

open Cert.AttnRefIdeal Cert.AttnRefIdeal.Gen Cert.AttnRefIdeal.Read Idealize.ShloMosaic Idealize.ShloMosaic.TcCoe Idealize.ShloMosaic.Pointwise

variable (q : S8x8x4096x64.Idx → ℝ) (k v : S8x2x4096x64.Idx → ℝ) (g : FVec Ideal S1x512 .f32)

/-- Where the result's entry lies among the groups of heads. -/
def place (i : S8x4096x512.Idx) : S8x2x4x4096x64.Idx :=
  ix5 (i 0) ⟨(i 2).val / 256, by have h : (i 2).val < 512 := (i 2).isLt; omega⟩ ⟨(i 2).val / 64 % 4, Nat.mod_lt _ (by decide)⟩ (i 1)
    ⟨(i 2).val % 64, Nat.mod_lt _ (by decide)⟩

theorem place_eq (i : S8x4096x512.Idx) : idx_main_v26 (idx_main_v27 i) = place i := by
  have i0 : (i 0).val < 8 := (i 0).isLt
  have i1 : (i 1).val < 4096 := (i 1).isLt
  have i2 : (i 2).val < 512 := (i 2).isLt
  funext a
  match a with
  | ⟨0, _⟩ => exact Fin.ext (show (((i 0).val * 4096 + (i 1).val) * 512 + (i 2).val) / 2097152 = (i 0).val by omega)
  | ⟨1, _⟩ => exact Fin.ext (show (((i 0).val * 4096 + (i 1).val) * 512 + (i 2).val) / 256 % 2 = (i 2).val / 256 by omega)
  | ⟨2, _⟩ => exact Fin.ext (show (((i 0).val * 4096 + (i 1).val) * 512 + (i 2).val) / 64 % 4 = (i 2).val / 64 % 4 by omega)
  | ⟨3, _⟩ => exact Fin.ext (show (((i 0).val * 4096 + (i 1).val) * 512 + (i 2).val) / 512 % 4096 = (i 1).val by omega)
  | ⟨4, _⟩ => exact Fin.ext (show (((i 0).val * 4096 + (i 1).val) * 512 + (i 2).val) % 64 = (i 2).val % 64 by omega)

/-- The score of the row of an entry against key `t`. -/
theorem sc_place (i : S8x4096x512.Idx) (t : Fin 4096) : sc q k (lidx_main_v15 (place i) t)
    = (∑ e : Fin 64, q (ix4 (i 0) ⟨(i 2).val / 64, by have h : (i 2).val < 512 := (i 2).isLt; omega⟩ (i 1) e)
        * k (ix4 (i 0) ⟨(i 2).val / 64 / 4, by have h : (i 2).val < 512 := (i 2).isLt; omega⟩ t e)) * (1 / 8) := by
  have i0 : (i 0).val < 8 := (i 0).isLt
  have i1 : (i 1).val < 4096 := (i 1).isLt
  have i2 : (i 2).val < 512 := (i 2).isLt
  unfold sc
  refine congrArg (· * (1 / 8 : ℝ)) (Finset.sum_congr rfl fun e _ => ?_)
  refine congr (congrArg (fun (a b : ℝ) => a * b) (congrArg q (funext fun a => ?_))) (congrArg k (funext fun a => ?_))
  · have e4 := e.isLt
    match a with
    | ⟨0, _⟩ => exact Fin.ext (show (((((i 0).val * 2 + (i 2).val / 256) * 4 + (i 2).val / 64 % 4) * 4096 + (i 1).val) * 64 + e.val) / 2097152 = (i 0).val by omega)
    | ⟨1, _⟩ => exact Fin.ext (show (((((i 0).val * 2 + (i 2).val / 256) * 4 + (i 2).val / 64 % 4) * 4096 + (i 1).val) * 64 + e.val) / 262144 % 8 = (i 2).val / 64 by omega)
    | ⟨2, _⟩ => exact Fin.ext (show (((((i 0).val * 2 + (i 2).val / 256) * 4 + (i 2).val / 64 % 4) * 4096 + (i 1).val) * 64 + e.val) / 64 % 4096 = (i 1).val by omega)
    | ⟨3, _⟩ => exact Fin.ext (show (((((i 0).val * 2 + (i 2).val / 256) * 4 + (i 2).val / 64 % 4) * 4096 + (i 1).val) * 64 + e.val) % 64 = e.val by omega)
  · match a with
    | ⟨0, _⟩ => rfl
    | ⟨1, _⟩ => exact Fin.ext (show (i 2).val / 256 = (i 2).val / 64 / 4 by omega)
    | ⟨2, _⟩ => rfl
    | ⟨3, _⟩ => rfl

/-- The value of key `t` in column `e` for the row of an entry. -/
theorem v_place (i : S8x4096x512.Idx) (t : Fin 4096) (e : Fin 64) : v (ridx_main_v15 (idx_main_v17 (row (place i)) e) t)
    = v (ix4 (i 0) ⟨(i 2).val / 64 / 4, by have h : (i 2).val < 512 := (i 2).isLt; omega⟩ t e) := by
  refine congrArg v (funext fun a => ?_)
  match a with
  | ⟨0, _⟩ => rfl
  | ⟨1, _⟩ => exact Fin.ext (show (i 2).val / 256 = (i 2).val / 64 / 4 by omega)
  | ⟨2, _⟩ => rfl
  | ⟨3, _⟩ => rfl

/-- The reference's result for finite queries, keys and values. -/
theorem result_eq : val_main_v31 (F := Ideal) (up q) (up k) (up v) g = Cert.AttnIdeal.Block.attnArr q k v g := by
  funext i
  have i2 : (i 2).val < 512 := (i 2).isLt
  rw [val_main_v31_apply, Ideal.truncf_def, val_main_v30_apply, Ideal.mulf_def, val_main_v27_apply, val_main_v26_apply, place_eq,
    v25 q k v (place i) ⟨(i 2).val % 64, Nat.mod_lt _ (by decide)⟩ rfl, val_main_v29_apply, val_main_v28_apply]
  unfold Cert.AttnIdeal.Block.attnArr Cert.AttnIdeal.Block.attn
  refine congr (congrArg (fun (a b : EReal) => a * b) (congrArg (fun r : ℝ => (r : EReal)) ?_)) (congrArg g (funext fun a => ?_))
  · refine congrFun ?_ _
    refine congr (congrArg (Softmax.normed Consts.eps) (funext fun t => sc_place q k i t)) (funext fun t => funext fun e => v_place v i t e)
  · match a with
    | ⟨0, _⟩ => rfl
    | ⟨1, _⟩ => exact Fin.ext (show (i 2).val = (i 2).val / 64 * 64 + (i 2).val % 64 by omega)

end Cert.AttnRefIdeal.Ref

end
-- ==== Proof.Experts.Launch.lean ====
/- The launch of the expert layer's program: what the region finds in the device's buffers, the prefetched tables, the
   windows' blocks, and the frame claim's postcondition read off a frame run's. -/
module

public import proofs.«01_k».proof.Proof.Gen.MoeIdeal.Launch
public import proofs.«01_k».proof.Proof.Gen.MoeIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.MoeIdeal.Own

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- The host's operations before the region, in order: the program's lines, split where they pad an array. -/
abbrev hostOps : List (List (HloOp τ sig (Elt F))) := [hostOps0, hostOps0_1, hostOps0_2, hostOps0_3, hostOps0_4]

/-- Core `c`'s TensorCore buffers when the region is entered: after the host's operations `hostOps`. -/
abbrev V (c : Dev nD) (b : Ref sig .tc) : Buf (Elt F) ((c : Thread nD τ).loc b) := StableHlo.after hostOps.flatten (fun b => m (c, b)) b

theorem hostOps_fresh : (hostOps : List (List (HloOp τ sig (Elt F)))).Forall fun ops => ops.Forall fun op => op.fresh = ∅ := by
  simp only [List.Forall]; repeat' constructor

set_option maxHeartbeats 800000 in
/-- @main up to the region, at the certificate's variants `𝒱₀`: the host operations then the region
    (`Pipeline.hmainP_prefixes`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostOps
    ⟨hostOps0_sub, hostOps0_1_sub, hostOps0_2_sub, hostOps0_3_sub, hostOps0_4_sub⟩ hostOps_fresh main_chain

/-- A buffer that is none of the host operations' results is found by the region as launched. -/
theorem V_unwritten (c : Dev nD) (b : Ref sig .tc)
    (hb : ∀ r ∈ [main_v0, main_v1, main_c, main_call0_v0, main_v2, main_v3, main_v4, main_c_0, main_call1_v0, main_v5, main_v6, main_v7, main_v8, main_v9], b ≠ r) :
    V m c b = m ((c : Thread nD τ).loc b) :=
  StableHlo.after_of_forall_not_mem (b := Proc.devRef .tc b) _ _ (List.forall_iff_forall_mem.mp (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S152 .i32 := Memref.whole main_arg0
abbrev htbM0_0 : tbM0_0.IsWhole := Memref.isWhole_whole _
abbrev tbM0_1 : Memref sig .tc .smem S152 .i32 := Memref.whole main_arg1
abbrev htbM0_1 : tbM0_1.IsWhole := Memref.isWhole_whole _
abbrev tbM0_2 : Memref sig .tc .smem S152 .i32 := Memref.whole main_arg2
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The word of the third table (is the block in use?) that the body reads at the grid point `i`. -/
abbrev word (c : Dev nD) (i : grid0.Coords) (xt2 : TbBuf0 (F := F) c tbM0_2) : BitVec 32 :=
  ((tbM0_2.access (Rect.unit (s := S152) (k0_off1 i) S1.size (k0_off1_inb i)) : View sig .tc _ _ _).read (Elt F) xt2)
    (Shape.Idx.first (s := S1) (numel1_S1.symm ▸ Nat.one_pos))

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Window 8 (result 0 (%10)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 0 (by decide) (by decide) (Pipeline.Window.sep_of_coord cc0_transform_8 0 0 (fun _ => rfl) (by decide)) (P := 1) (m := 0) (by decide) rfl t).mpr (Nat.mod_one _) : ∀ t : Fin grid0.N, Pipeline.Window.flushOf grid0 true cc0_transform_8 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8))

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_MoeIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (by decide : main_arg0 ∈ Pipeline.restRefs sig spec0)).trans (V_unwritten m c main_arg0 (by decide)),
      ((h c).2 main_arg1 (by decide : main_arg1 ∈ Pipeline.restRefs sig spec0)).trans (V_unwritten m c main_arg1 (by decide)),
      ((h c).2 main_arg2 (by decide : main_arg2 ∈ Pipeline.restRefs sig spec0)).trans (V_unwritten m c main_arg2 (by decide)),
      ((h c).1 0).trans (((dats 0 c).arrAt_in 0 rfl _).trans ((hA c 0).trans (V_unwritten m c main_arg3 (by decide)))),
      ((h c).1 1).trans (((dats 0 c).arrAt_in 1 rfl _).trans ((hA c 1).trans (V_unwritten m c main_arg4 (by decide)))),
      ((h c).2 main_arg5 (by decide : main_arg5 ∈ Pipeline.restRefs sig spec0)).trans (V_unwritten m c main_arg5 (by decide)),
      ((h c).2 main_arg6 (by decide : main_arg6 ∈ Pipeline.restRefs sig spec0)).trans (V_unwritten m c main_arg6 (by decide)),
      ((h c).2 main_arg7 (by decide : main_arg7 ∈ Pipeline.restRefs sig spec0)).trans (V_unwritten m c main_arg7 (by decide)),
      ((h c).2 main_arg8 (by decide : main_arg8 ∈ Pipeline.restRefs sig spec0)).trans (V_unwritten m c main_arg8 (by decide)),
      ((h c).2 main_arg9 (by decide : main_arg9 ∈ Pipeline.restRefs sig spec0)).trans (V_unwritten m c main_arg9 (by decide)),
      ((h c).2 main_arg10 (by decide : main_arg10 ∈ Pipeline.restRefs sig spec0)).trans (V_unwritten m c main_arg10 (by decide)),
      ((h c).2 main_arg11 (by decide : main_arg11 ∈ Pipeline.restRefs sig spec0)).trans (V_unwritten m c main_arg11 (by decide))⟩) h

/-! ## The kernel body on any staging memrefs: a subtype the run finds -/

/-- One staging buffer of output window 8, through which its contents are stated (`View.read_writes_of_cover`: the
    choice does not matter). -/
abbrev VO0_8 : View sig .tc .vmem S2048x128 .f32 := (Memref.whole cc0_stg8_0 : Memref sig .tc .vmem S2048x128 .f32).view
/-- Each window's current staging memref at point `t`, spelled as the pipeline passes it (`bodyAt0`), and its wholeness. -/
abbrev ms0_0 (hO : Ok m) (t : Fin (cfgM m hO).N) : Memref sig .tc .vmem S2048x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S32x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S32x1 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1024x1024 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x512x1024 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1024x1024 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x512x1024 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S2048x128 .f32 := spec0_8.stage ((cfgM m hO).slots t 8)
abbrev hs0_8 (hO : Ok m) (t : Fin (cfgM m hO).N) : (ms0_8 m hO t).IsWhole := hstage0_8 (((cfgM m hO).slots t 8).cast nbuf0_8)

end Cert.MoeIdeal.Own

end
-- ==== Proof.Experts.RunLive.lean ====
/- The run of the expert kernel's body at a block that holds tokens. -/
module

public import proofs.«01_k».proof.Proof.Experts.Launch

@[expose] public section

set_option maxRecDepth 16384

noncomputable section

namespace Cert.MoeIdeal.Own

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] k0_cond1 k0_cond2

set_option maxHeartbeats 1000000 in
/-- The body at a point whose table word says that the block holds tokens: on whole staging memrefs, the inputs' at their
    contents and the output's at anything, it runs to the continuation holding the inputs' as they were and the output's with
    the run's pieces (the eight strided stores, last first) written. -/
noncomputable def runLive (c : Dev nD) (i : grid0.Coords) (arg4 : Memref sig .tc .vmem S2048x128 .f32) (harg4 : arg4.IsWhole) (arg5 : Memref sig .tc .vmem S1x1024 .f32) (harg5 : arg5.IsWhole) (arg6 : Memref sig .tc .vmem S32x1024 .bf16) (harg6 : arg6.IsWhole) (arg7 : Memref sig .tc .vmem S32x1 .f32) (harg7 : arg7.IsWhole) (arg8 : Memref sig .tc .vmem S1x1024x1024 .bf16) (harg8 : arg8.IsWhole) (arg9 : Memref sig .tc .vmem S1x512x1024 .bf16) (harg9 : arg9.IsWhole) (arg10 : Memref sig .tc .vmem S1x1024x1024 .bf16) (harg10 : arg10.IsWhole) (arg11 : Memref sig .tc .vmem S1x512x1024 .bf16) (harg11 : arg11.IsWhole) (arg12 : Memref sig .tc .vmem S2048x128 .f32) (harg12 : arg12.IsWhole)
    (x0 : Vec F S2048x128 .f32) (x1 : Vec F S1x1024 .f32) (x2 : Vec F S32x1024 .bf16) (x3 : Vec F S32x1 .f32) (x4 : Vec F S1x1024x1024 .bf16) (x5 : Vec F S1x512x1024 .bf16) (x6 : Vec F S1x1024x1024 .bf16) (x7 : Vec F S1x512x1024 .bf16) (xt0 : TbBuf0 (F := F) c tbM0_0) (xt1 : TbBuf0 (F := F) c tbM0_1) (xt2 : TbBuf0 (F := F) c tbM0_2)
    (hc1 : k0_cond1 (word c i xt2) = 1#1) (hc2 : ¬k0_cond2 (word c i xt2) = 1#1) :
    { L8 : List (View.Piece (Elt F) S2048x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ f, arg12.view.loc (c : Thread nD τ) ↦[arg12.view.set]{fullShare} arg12.view.writes (Elt F) f L8) ∗ tbPt0 c tbM0_0 xt0 ∗ tbPt0 c tbM0_1 xt1 ∗ tbPt0 c tbM0_2 xt2) -∗ K ⟨⟩))
          ⊢ wp frame (wpE (defs₀ (F := F)) Variants.none c none) E (cc0_moe_experts i tbM0_0 htbM0_0 tbM0_1 htbM0_1 tbM0_2 htbM0_2 arg4 harg4 arg5 harg5 arg6 harg6 arg7 harg7 arg8 harg8 arg9 harg9 arg10 harg10 arg11 harg11 arg12 harg12) K } := by
  refine ⟨?_, fun E K => ?run⟩
  case run =>
    simp only [cc0_moe_experts_eq_skeleton]; unfold cc0_moe_experts_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
    sl_exec (disch := first | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]; · iexists _; iexact H8
    isplitl [HT0]; · iexact HT0
    isplitl [HT1]; · iexact HT1
    iexact HT2

end Cert.MoeIdeal.Own

end
-- ==== Proof.Experts.RunEmpty.lean ====
/- The run of the expert kernel's body at a block that holds no token. -/
module

public import proofs.«01_k».proof.Proof.Experts.Launch

@[expose] public section

set_option maxRecDepth 16384

noncomputable section

namespace Cert.MoeIdeal.Own

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] k0_cond1 k0_cond2

set_option maxHeartbeats 1000000 in
/-- The body at a point whose table word says that the block holds no token: it leaves the inputs' memrefs as they were and
    the output's with the one store of zeros written. -/
noncomputable def runEmpty (c : Dev nD) (i : grid0.Coords) (arg4 : Memref sig .tc .vmem S2048x128 .f32) (harg4 : arg4.IsWhole) (arg5 : Memref sig .tc .vmem S1x1024 .f32) (harg5 : arg5.IsWhole) (arg6 : Memref sig .tc .vmem S32x1024 .bf16) (harg6 : arg6.IsWhole) (arg7 : Memref sig .tc .vmem S32x1 .f32) (harg7 : arg7.IsWhole) (arg8 : Memref sig .tc .vmem S1x1024x1024 .bf16) (harg8 : arg8.IsWhole) (arg9 : Memref sig .tc .vmem S1x512x1024 .bf16) (harg9 : arg9.IsWhole) (arg10 : Memref sig .tc .vmem S1x1024x1024 .bf16) (harg10 : arg10.IsWhole) (arg11 : Memref sig .tc .vmem S1x512x1024 .bf16) (harg11 : arg11.IsWhole) (arg12 : Memref sig .tc .vmem S2048x128 .f32) (harg12 : arg12.IsWhole)
    (x0 : Vec F S2048x128 .f32) (x1 : Vec F S1x1024 .f32) (x2 : Vec F S32x1024 .bf16) (x3 : Vec F S32x1 .f32) (x4 : Vec F S1x1024x1024 .bf16) (x5 : Vec F S1x512x1024 .bf16) (x6 : Vec F S1x1024x1024 .bf16) (x7 : Vec F S1x512x1024 .bf16) (xt0 : TbBuf0 (F := F) c tbM0_0) (xt1 : TbBuf0 (F := F) c tbM0_1) (xt2 : TbBuf0 (F := F) c tbM0_2)
    (hc1 : ¬k0_cond1 (word c i xt2) = 1#1) (hc2 : k0_cond2 (word c i xt2) = 1#1) :
    { L8 : List (View.Piece (Elt F) S2048x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ f, arg12.view.loc (c : Thread nD τ) ↦[arg12.view.set]{fullShare} arg12.view.writes (Elt F) f L8) ∗ tbPt0 c tbM0_0 xt0 ∗ tbPt0 c tbM0_1 xt1 ∗ tbPt0 c tbM0_2 xt2) -∗ K ⟨⟩))
          ⊢ wp frame (wpE (defs₀ (F := F)) Variants.none c none) E (cc0_moe_experts i tbM0_0 htbM0_0 tbM0_1 htbM0_1 tbM0_2 htbM0_2 arg4 harg4 arg5 harg5 arg6 harg6 arg7 harg7 arg8 harg8 arg9 harg9 arg10 harg10 arg11 harg11 arg12 harg12) K } := by
  refine ⟨?_, fun E K => ?run⟩
  case run =>
    simp only [cc0_moe_experts_eq_skeleton]; unfold cc0_moe_experts_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
    sl_exec (disch := first | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]; · iexists _; iexact H8
    isplitl [HT0]; · iexact HT0
    isplitl [HT1]; · iexact HT1
    iexact HT2

end Cert.MoeIdeal.Own

end
-- ==== Proof.Experts.Frame.lean ====
/- The frame certificate of the expert layer's program: what the body leaves in the output's block at each grid point, the
   pipeline's proof data, the body obligation, the run of the program, and the frame claim. -/
module

public import proofs.«01_k».proof.Proof.Experts.RunLive
public import proofs.«01_k».proof.Proof.Experts.RunEmpty
public import Idealize.ShloMosaic.Lib.Claim

@[expose] public section

set_option maxRecDepth 16384

noncomputable section

namespace Cert.MoeIdeal.Own

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] k0_cond1 k0_cond2

/-- Rows `j, j + 8, j + 16, …` of a block: what the body's store number `j` writes. -/
def rowRect (j : Fin 8) : Rect S2048x128 where
  off := ![j.val, 0]
  size := S256x128.size
  stride := ![8, 1]
  inb := fun a => by
    have h := j.isLt
    match a with
    | ⟨0, _⟩ => exact .inr (show j.val + 8 * (256 - 1) < 2048 by omega)
    | ⟨1, _⟩ => exact .inr (show 0 + 1 * (128 - 1) < 128 by omega)
  stride_pos := spos_8_1

/-- A row of the block lies among the rows of the store whose number is its residue modulo eight. -/
theorem mem_rowRect (y : S2048x128.Idx) : y ∈ (rowRect ⟨(y 0).val % 8, Nat.mod_lt _ (by decide)⟩).set := by
  have h0 : (y 0).val < 2048 := (y 0).isLt
  rw [LoadRect.mem_set]
  intro a
  match a with
  | ⟨0, _⟩ => exact ⟨(y 0).val / 8, show (y 0).val / 8 < 256 by omega, show (y 0).val = (y 0).val % 8 + 8 * ((y 0).val / 8) by omega⟩
  | ⟨1, _⟩ => exact ⟨(y 1).val, (y 1).isLt, show (y 1).val = 0 + 1 * (y 1).val by omega⟩

/-- Pieces at the eight strided rectangles cover the block. -/
theorem cover_rows (L : List (View.Piece (Elt F) S2048x128 .f32)) (hL : ∀ j, ∃ pc ∈ L, pc.1 = rowRect j) (y : S2048x128.Idx) :
    ∃ pc ∈ L, y ∈ pc.1.set := by
  obtain ⟨pc, hpc, e⟩ := hL ⟨(y 0).val % 8, Nat.mod_lt _ (by decide)⟩
  exact ⟨pc, hpc, e ▸ mem_rowRect y⟩

/-- The pieces that the body stores at a block with tokens, in any order, are at the eight strided rectangles. -/
theorem live_rects (c : Dev nD) (i : grid0.Coords) (arg4 : Memref sig .tc .vmem S2048x128 .f32) (harg4 : arg4.IsWhole) (arg5 : Memref sig .tc .vmem S1x1024 .f32) (harg5 : arg5.IsWhole) (arg6 : Memref sig .tc .vmem S32x1024 .bf16) (harg6 : arg6.IsWhole) (arg7 : Memref sig .tc .vmem S32x1 .f32) (harg7 : arg7.IsWhole) (arg8 : Memref sig .tc .vmem S1x1024x1024 .bf16) (harg8 : arg8.IsWhole) (arg9 : Memref sig .tc .vmem S1x512x1024 .bf16) (harg9 : arg9.IsWhole) (arg10 : Memref sig .tc .vmem S1x1024x1024 .bf16) (harg10 : arg10.IsWhole) (arg11 : Memref sig .tc .vmem S1x512x1024 .bf16) (harg11 : arg11.IsWhole) (arg12 : Memref sig .tc .vmem S2048x128 .f32) (harg12 : arg12.IsWhole)
    (x0 : Vec F S2048x128 .f32) (x1 : Vec F S1x1024 .f32) (x2 : Vec F S32x1024 .bf16) (x3 : Vec F S32x1 .f32) (x4 : Vec F S1x1024x1024 .bf16) (x5 : Vec F S1x512x1024 .bf16) (x6 : Vec F S1x1024x1024 .bf16) (x7 : Vec F S1x512x1024 .bf16) (xt0 : TbBuf0 (F := F) c tbM0_0) (xt1 : TbBuf0 (F := F) c tbM0_1) (xt2 : TbBuf0 (F := F) c tbM0_2) (hc1 : k0_cond1 (word c i xt2) = 1#1) (hc2 : ¬k0_cond2 (word c i xt2) = 1#1) (j : Fin 8) :
    ∃ pc ∈ (runLive c i arg4 harg4 arg5 harg5 arg6 harg6 arg7 harg7 arg8 harg8 arg9 harg9 arg10 harg10 arg11 harg11 arg12 harg12 x0 x1 x2 x3 x4 x5 x6 x7 xt0 xt1 xt2 hc1 hc2).1, pc.1 = rowRect j := by
  unfold runLive
  match j with
  | ⟨7, _⟩ => exact ⟨_, .head _, rfl⟩
  | ⟨6, _⟩ => exact ⟨_, .tail _ (.head _), rfl⟩
  | ⟨5, _⟩ => exact ⟨_, .tail _ (.tail _ (.head _)), rfl⟩
  | ⟨4, _⟩ => exact ⟨_, .tail _ (.tail _ (.tail _ (.head _))), rfl⟩
  | ⟨3, _⟩ => exact ⟨_, .tail _ (.tail _ (.tail _ (.tail _ (.head _)))), rfl⟩
  | ⟨2, _⟩ => exact ⟨_, .tail _ (.tail _ (.tail _ (.tail _ (.tail _ (.head _))))), rfl⟩
  | ⟨1, _⟩ => exact ⟨_, .tail _ (.tail _ (.tail _ (.tail _ (.tail _ (.tail _ (.head _)))))), rfl⟩
  | ⟨0, _⟩ => exact ⟨_, .tail _ (.tail _ (.tail _ (.tail _ (.tail _ (.tail _ (.tail _ (.head _))))))), rfl⟩

/-- At a block with no token the body stores one piece, the block of zeros. -/
theorem empty_pieces (c : Dev nD) (i : grid0.Coords) (arg4 : Memref sig .tc .vmem S2048x128 .f32) (harg4 : arg4.IsWhole) (arg5 : Memref sig .tc .vmem S1x1024 .f32) (harg5 : arg5.IsWhole) (arg6 : Memref sig .tc .vmem S32x1024 .bf16) (harg6 : arg6.IsWhole) (arg7 : Memref sig .tc .vmem S32x1 .f32) (harg7 : arg7.IsWhole) (arg8 : Memref sig .tc .vmem S1x1024x1024 .bf16) (harg8 : arg8.IsWhole) (arg9 : Memref sig .tc .vmem S1x512x1024 .bf16) (harg9 : arg9.IsWhole) (arg10 : Memref sig .tc .vmem S1x1024x1024 .bf16) (harg10 : arg10.IsWhole) (arg11 : Memref sig .tc .vmem S1x512x1024 .bf16) (harg11 : arg11.IsWhole) (arg12 : Memref sig .tc .vmem S2048x128 .f32) (harg12 : arg12.IsWhole)
    (x0 : Vec F S2048x128 .f32) (x1 : Vec F S1x1024 .f32) (x2 : Vec F S32x1024 .bf16) (x3 : Vec F S32x1 .f32) (x4 : Vec F S1x1024x1024 .bf16) (x5 : Vec F S1x512x1024 .bf16) (x6 : Vec F S1x1024x1024 .bf16) (x7 : Vec F S1x512x1024 .bf16) (xt0 : TbBuf0 (F := F) c tbM0_0) (xt1 : TbBuf0 (F := F) c tbM0_1) (xt2 : TbBuf0 (F := F) c tbM0_2) (hc1 : ¬k0_cond1 (word c i xt2) = 1#1) (hc2 : k0_cond2 (word c i xt2) = 1#1) :
    (runEmpty c i arg4 harg4 arg5 harg5 arg6 harg6 arg7 harg7 arg8 harg8 arg9 harg9 arg10 harg10 arg11 harg11 arg12 harg12 x0 x1 x2 x3 x4 x5 x6 x7 xt0 xt1 xt2 hc1 hc2).1 = [⟨Rect.unit (s := S2048x128) ![0, 0] S2048x128.size inb_S2048x128_S2048x128_0_0, k0_pay2 (F := F)⟩] := rfl

/-- That one piece covers the block. -/
theorem empty_cover (w : S2048x128.Idx → Elt F .f32) (y : S2048x128.Idx) :
    ∃ pc ∈ [(⟨Rect.unit (s := S2048x128) ![0, 0] S2048x128.size inb_S2048x128_S2048x128_0_0, w⟩ : View.Piece (Elt F) S2048x128 .f32)], y ∈ pc.1.set := by
  refine ⟨_, List.mem_singleton.2 rfl, (Rect.mem_set_unit (inb := inb_S2048x128_S2048x128_0_0)).2 fun a => ?_⟩
  match a with
  | ⟨0, _⟩ => exact ⟨Nat.zero_le _, show (y 0).val < 0 + 2048 by have : (y 0).val < 2048 := (y 0).isLt; omega⟩
  | ⟨1, _⟩ => exact ⟨Nat.zero_le _, show (y 1).val < 0 + 128 by have : (y 1).val < 128 := (y 1).isLt; omega⟩

/-! ## What the output's block holds after each point -/

/-- The word of the third table at point `i` says either "tokens" or "none": it is not negative. -/
def Ranged : Prop := ∀ (c : Dev nD) (i : grid0.Coords),
  (k0_cond1 (word c i (tbl m 2)) = 1#1 ∧ ¬k0_cond2 (word c i (tbl m 2)) = 1#1)
    ∨ (¬k0_cond1 (word c i (tbl m 2)) = 1#1 ∧ k0_cond2 (word c i (tbl m 2)) = 1#1)

/-- The pieces that the body stores at point `t`, by the case of its table word. -/
def piecesAt (hO : Ok m) (c : Dev nD) (t : Fin (cfgM m hO).N) : List (View.Piece (Elt F) S2048x128 .f32) :=
  if h : k0_cond1 (word c (grid0.coords t) (tbl m 2)) = 1#1 ∧ ¬k0_cond2 (word c (grid0.coords t) (tbl m 2)) = 1#1 then
    (runLive c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (iblk m hO c 5 t) (iblk m hO c 6 t) (iblk m hO c 7 t) (tbl m 0) (tbl m 1) (tbl m 2) h.1 h.2).1
  else [⟨Rect.unit (s := S2048x128) ![0, 0] S2048x128.size inb_S2048x128_S2048x128_0_0, k0_pay2 (F := F)⟩]

theorem piecesAt_cover (hO : Ok m) (c : Dev nD) (t : Fin (cfgM m hO).N) (y : S2048x128.Idx) :
    ∃ pc ∈ piecesAt m hO c t, y ∈ pc.1.set := by
  unfold piecesAt
  split
  · exact cover_rows _ (live_rects _ _ _ _ _ _ _ _ _ _ _ _ _ _ _ _ _ _ _ _ _ _ _ _ _ _ _ _ _ _ _ _ _) y
  · exact empty_cover _ y

/-- What the output's staging buffer holds after the body at point `t`: the stored pieces read back. -/
def outsAt0 (hO : Ok m) (c : Dev nD) (t : Fin (cfgM m hO).N) : Vec F S2048x128 .f32 :=
  VO0_8.read (Elt F) (VO0_8.writes (Elt F) VO0_8.junk (piecesAt m hO c t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => (outsAt0 m hO c t)
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t))

set_option maxHeartbeats 800000 in
/-- The body at any point: the inputs' memrefs hold their blocks (`before0_W`); so the
    run applies; the invariant passes through unread; the core owes nothing throughout. -/
theorem sound_body (hO : Ok m) (hR : Ranged m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8]
  rw [show (dats m hO 0 c).Φ t.castSucc = iprop(Pipeline.ΦA spec0 c ∗ Pipeline.ΦT pre0 (tbl m) c) from rfl, PhiT0_eq]
  unfold outsAt0
  rcases hR c (grid0.coords t) with h | h
  · have hp : piecesAt m hO c t = (runLive c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (iblk m hO c 5 t) (iblk m hO c 6 t) (iblk m hO c 7 t) (tbl m 0) (tbl m 1) (tbl m 2) h.1 h.2).1 := dif_pos h
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runLive c (grid0.coords t) _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) (tbl m 1) (tbl m 2) h.1 h.2).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HT0]; · iexact HT0
    isplitl [HT1]; · iexact HT1
    isplitl [HT2]; · iexact HT2
    iintro ⟨H0, H1, H2, H3, H4, H5, H6, H7, ⟨%e8, H8⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; rw [hp]; exact View.read_writes_of_cover _ _ _ _ _ (fun y => hp ▸ piecesAt_cover m hO c t y)
  · have hp : piecesAt m hO c t = (runEmpty c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (iblk m hO c 5 t) (iblk m hO c 6 t) (iblk m hO c 7 t) (tbl m 0) (tbl m 1) (tbl m 2) h.1 h.2).1 := (dif_neg fun h' => h.1 h'.1).trans (empty_pieces _ _ _ _ _ _ _ _ _ _ _ _ _ _ _ _ _ _ _ _ _ _ _ _ _ _ _ _ _ _ _ _ _).symm
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runEmpty c (grid0.coords t) _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) (tbl m 1) (tbl m 2) h.1 h.2).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HT0]; · iexact HT0
    isplitl [HT1]; · iexact HT1
    isplitl [HT2]; · iexact HT2
    iintro ⟨H0, H1, H2, H3, H4, H5, H6, H7, ⟨%e8, H8⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; rw [hp]; exact View.read_writes_of_cover _ _ _ _ _ (fun y => hp ▸ piecesAt_cover m hO c t y)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- No point is idle for the output's window: the body stores its block in both cases. -/
theorem idle_out (hO : Ok m) (hR : Ranged m) (t : Fin (cfgM m hO).N) : (cfgM m hO).idle (8 : Fin 9) ((cfgM m hO).grid.coords t) = false := by
  show (!(k0_cond1 (Pipeline.Prefetch.Contents.atD (pre := pre0) (tbl m) 2 (k0_off1 (grid0.coords t))) == 1#1)
    && !(k0_cond2 (Pipeline.Prefetch.Contents.atD (pre := pre0) (tbl m) 2 (k0_off3 (grid0.coords t))) == 1#1)) = false
  have e1 : Pipeline.Prefetch.Contents.atD (pre := pre0) (tbl m) 2 (k0_off1 (grid0.coords t)) = word 0 (grid0.coords t) (tbl m 2) := by
    unfold Pipeline.Prefetch.Contents.atD
    rw [dif_pos (fun a => by fin_cases a; exact k0_off1_inb (grid0.coords t) 0)]
    rfl
  have e3 : Pipeline.Prefetch.Contents.atD (pre := pre0) (tbl m) 2 (k0_off3 (grid0.coords t)) = word 0 (grid0.coords t) (tbl m 2) := by
    unfold Pipeline.Prefetch.Contents.atD
    rw [dif_pos (fun a => by fin_cases a; exact k0_off3_inb (grid0.coords t) 0)]
    rfl
  rw [e1, e3]
  rcases hR 0 (grid0.coords t) with h | h
  · rw [h.1]; rfl
  · rw [h.2]; simp

/-- The library's body obligation, at every point: the body's triple restated. -/
theorem body_obligation (hO : Ok m) (hR : Ranged m) (c : Dev nD) : BodyObligation (dats (F := F) m hO 0 c) (defs₀ (F := F)) Variants.none () Set.univ := fun t => by
  rw [bigSep_W0, bigSep_W0, defs₀_row m hO]
  rw [idle_out m hO hR t]
  exact triple_restated (sound_body m hO hR c t) rfl .rfl fun _ => .rfl

/-! ## The run and the frame -/

-- `θ_run_frameP_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hR : Ranged m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO hR c).loose) (hq := fun _ _ _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) (hR : Ranged m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hR)

/-- `frame` without the counters: the argument arrays end unchanged. -/
theorem unchanged (hO : Ok m) (hR : Ranged m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ hO (dats m hO) (A_eq m hO) (run_main m ρ hO hR)

/-- The frame claim, at any reading of the floats and for every contents of the prefetched tables that keep the windows'
    blocks inside their arrays (`Ok`) and the third table's words non-negative (`Ranged`). -/
theorem frame (hO : Ok m) (hR : Ranged m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ hO hR) ((θ_run defs _ _).mono (fun _ h => h.2) (run_main_quiescent m ρ hO hR))

end Cert.MoeIdeal.Own

end
-- ==== Proof.Experts.Spec.lean ====
/- The mathematics of one routed row: the norm, the router's logits, the two gates, an expert's feed-forward, the row with its
   residual; and the equality of the ways in which the two programs compute a gate and combine the experts. Nothing here
   mentions a program. -/
module

public import proofs.«01_k».proof.Proof.Softmax
public import proofs.«01_k».proof.Proof.Consts

@[expose] public section

noncomputable section

namespace Cert.Experts

open Idealize.ShloMosaic

/-- A row divided by the root of its mean square plus `eps`, times the gain. -/
def nrm (x g : Fin 1024 → ℝ) (d : Fin 1024) : ℝ := x d * (√((∑ e, x e * x e) * (1 / 1024) + Consts.eps))⁻¹ * g d

/-- The norm as the programs compute it. -/
theorem nrm_eq (x g : Fin 1024 → ℝ) (d : Fin 1024) :
    (x d : EReal) * Ideal.rsqrt (Ideal.div (∑ e, (x e : EReal) * (x e : EReal)) ((1024 : ℝ) : EReal) + (Consts.eps : EReal)) * (g d : EReal)
      = (nrm x g d : EReal) := by
  have h : 0 < (∑ e, x e * x e) * (1 / 1024) + Consts.eps :=
    add_pos_of_nonneg_of_pos (mul_nonneg (Finset.sum_nonneg fun e _ => mul_self_nonneg _) (by norm_num)) Consts.eps_pos
  simp only [← EReal.coe_mul, Softmax.coe_sum]
  rw [Ideal.div_coe (by norm_num), ← EReal.coe_mul, ← EReal.coe_add, Ideal.rsqrt_coe, if_neg (not_lt.mpr h.le), if_neg h.ne',
    ← EReal.coe_mul, ← EReal.coe_mul]
  rfl

/-- A linear form of a row plus a bias. -/
def logit (h W : Fin 1024 → ℝ) (b : ℝ) : ℝ := (∑ d, h d * W d) + b

theorem logit_eq (h W : Fin 1024 → ℝ) (b : ℝ) : (∑ d, (h d : EReal) * (W d : EReal)) + (b : EReal) = (logit h W b : EReal) := by
  simp only [← EReal.coe_mul, Softmax.coe_sum, ← EReal.coe_add]
  rfl

theorem logit_eq' (h W : Fin 1024 → ℝ) (b : ℝ) : (∑ d, (W d : EReal) * (h d : EReal)) + (b : EReal) = (logit h W b : EReal) := by
  rw [← logit_eq]
  simp only [mul_comm]

/-- The softmax of real scores. -/
def soft {n : ℕ} (a : Fin n → ℝ) (g : Fin n) : ℝ := Real.exp (a g) / ∑ e, Real.exp (a e)

theorem soft_pos {n : ℕ} (a : Fin n → ℝ) (g : Fin n) : 0 < soft a g :=
  div_pos (Real.exp_pos _) (Finset.sum_pos (fun e _ => Real.exp_pos _) ⟨g, Finset.mem_univ _⟩)

/-- The softmax does not depend on the shift of the scores. -/
theorem soft_shift {n : ℕ} (a : Fin n → ℝ) (g : Fin n) (M : ℝ) :
    Ideal.div (Ideal.exp ((a g : EReal) - (M : EReal))) (∑ e, Ideal.exp ((a e : EReal) - (M : EReal))) = (soft a g : EReal) := by
  have hs : 0 < ∑ e, Real.exp (a e - M) := Finset.sum_pos (fun e _ => Real.exp_pos _) ⟨g, Finset.mem_univ _⟩
  have h0 : 0 < ∑ e, Real.exp (a e) := Finset.sum_pos (fun e _ => Real.exp_pos _) ⟨g, Finset.mem_univ _⟩
  simp only [← EReal.coe_sub, Ideal.exp_coe, Softmax.coe_sum]
  rw [Ideal.div_coe hs.ne', ← EReal.coe_mul]
  congr 1
  unfold soft
  simp only [Real.exp_sub] at hs ⊢
  rw [← Finset.sum_div] at hs ⊢
  have := Real.exp_pos M
  field_simp

/-- The gate of the expert with the score `s` beside the one with the score `s'`: its share of the group's probability `p`. -/
def gate (p s s' : ℝ) : ℝ := p * Real.exp s / (Real.exp s + Real.exp s')

theorem gate_nonneg {p : ℝ} (hp : 0 ≤ p) (s s' : ℝ) : 0 ≤ gate p s s' :=
  div_nonneg (mul_nonneg hp (Real.exp_pos _).le) (add_pos (Real.exp_pos _) (Real.exp_pos _)).le

/-- The gate from shifted scores. -/
theorem gate_shift (p s s' M : ℝ) :
    Ideal.div ((p : EReal) * Ideal.exp ((s : EReal) - (M : EReal))) (Ideal.exp ((s : EReal) - (M : EReal)) + Ideal.exp ((s' : EReal) - (M : EReal)))
      = (gate p s s' : EReal) := by
  simp only [← EReal.coe_sub, Ideal.exp_coe, ← EReal.coe_mul, ← EReal.coe_add]
  rw [Ideal.div_coe (add_pos (Real.exp_pos _) (Real.exp_pos _)).ne', ← EReal.coe_mul]
  congr 1
  unfold gate
  rw [Real.exp_sub, Real.exp_sub, ← add_div]
  have := Real.exp_pos M
  have := add_pos (Real.exp_pos s) (Real.exp_pos s')
  field_simp

/-- The same when the second expert's gate is taken: the scores are added in the other order. -/
theorem gate_shift' (p s s' M : ℝ) :
    Ideal.div ((p : EReal) * Ideal.exp ((s' : EReal) - (M : EReal))) (Ideal.exp ((s : EReal) - (M : EReal)) + Ideal.exp ((s' : EReal) - (M : EReal)))
      = (gate p s' s : EReal) := by
  rw [add_comm, gate_shift]

/-- The gate from the two softmaxes of a group. -/
theorem gate_soft {n : ℕ} (p : ℝ) (a : Fin n → ℝ) (i j : Fin n) :
    Ideal.div ((p : EReal) * (soft a i : EReal)) ((soft a i : EReal) + (soft a j : EReal)) = (gate p (a i) (a j) : EReal) := by
  rw [← EReal.coe_mul, ← EReal.coe_add, Ideal.div_coe (add_pos (soft_pos _ _) (soft_pos _ _)).ne', ← EReal.coe_mul]
  congr 1
  unfold gate soft
  have h0 : 0 < ∑ e, Real.exp (a e) := Finset.sum_pos (fun e _ => Real.exp_pos _) ⟨i, Finset.mem_univ _⟩
  have := add_pos (Real.exp_pos (a i)) (Real.exp_pos (a j))
  rw [← add_div]
  field_simp

theorem gate_soft' {n : ℕ} (p : ℝ) (a : Fin n → ℝ) (i j : Fin n) :
    Ideal.div ((p : EReal) * (soft a j : EReal)) ((soft a i : EReal) + (soft a j : EReal)) = (gate p (a j) (a i) : EReal) := by
  rw [add_comm, gate_soft]

/-- One expert's feed-forward of a row. -/
def ffn (h : Fin 1024 → EReal) (wg wu : Fin 1024 → Fin 512 → EReal) (wd : Fin 512 → Fin 1024 → EReal) (d : Fin 1024) : EReal :=
  ∑ f, ((∑ e, h e * wg e f) * Ideal.logistic (∑ e, h e * wg e f) * ∑ e, h e * wu e f) * wd f d

/-- Adding the two chosen experts one after the other is adding all experts' rows times gates that are zero elsewhere. -/
theorem combine {n : ℕ} (x : EReal) (Y : Fin n → EReal) {a b : ℝ} (ha : 0 ≤ a) (hb : 0 ≤ b) (lo hi : Fin n) :
    x + ∑ e, ((a : EReal) * (if lo = e then 1 else 0) + (b : EReal) * (if hi = e then 1 else 0)) * Y e
      = (x + (a : EReal) * Y lo) + (b : EReal) * Y hi := by
  have h : ∀ e, ((a : EReal) * (if lo = e then 1 else 0) + (b : EReal) * (if hi = e then 1 else 0)) * Y e
      = (if lo = e then (a : EReal) * Y e else 0) + (if hi = e then (b : EReal) * Y e else 0) := by
    intro e
    by_cases h1 : lo = e <;> by_cases h2 : hi = e
    · rw [if_pos h1, if_pos h2, if_pos h1, if_pos h2, mul_one, mul_one]
      exact EReal.right_distrib_of_nonneg (EReal.coe_nonneg.mpr ha) (EReal.coe_nonneg.mpr hb)
    · rw [if_pos h1, if_neg h2, if_pos h1, if_neg h2, mul_one, mul_zero, add_zero, add_zero]
    · rw [if_neg h1, if_pos h2, if_neg h1, if_pos h2, mul_one, mul_zero, zero_add, zero_add]
    · rw [if_neg h1, if_neg h2, if_neg h1, if_neg h2, mul_zero, mul_zero, add_zero, zero_mul]
  simp only [h]
  rw [Finset.sum_add_distrib, Finset.sum_ite_eq, Finset.sum_ite_eq, if_pos (Finset.mem_univ _), if_pos (Finset.mem_univ _), add_assoc]

/-- The number of the group of an expert. -/
def grp (e : Fin 16) : Fin 4 := ⟨e.val / 4, by omega⟩

/-! ## Sums and maxima over the 32 rows of the kernel's table of logits -/

theorem sel1 (a b : EReal) : Scalar.select 1#1 a b = a := if_pos rfl
theorem sel0 (a b : EReal) : Scalar.select 0#1 a b = b := if_neg (by decide)

theorem lt4 : ∀ x : Fin 32, IntOp.cmpi .slt (BitVec.ofNat 32 x.val) 4#32 = if x.val < 4 then 1#1 else 0#1 := by decide

/-- A sum over the rows below 4. -/
theorem sum_lt4 (f : Fin 32 → EReal) :
    (∑ x : Fin 32, Scalar.select (IntOp.cmpi .slt (BitVec.ofNat 32 x.val) 4#32) (f x) 0) = ∑ e : Fin 4, f ⟨e.val, by omega⟩ := by
  simp only [lt4]
  rw [Fin.sum_univ_add (a := 4) (b := 28)]
  rw [Finset.sum_eq_zero (s := (Finset.univ : Finset (Fin 28))), add_zero]
  · refine Finset.sum_congr rfl fun e _ => ?_
    rw [if_pos (show (Fin.castAdd 28 e).val < 4 from e.isLt), sel1]
    rfl
  · intro e _
    rw [if_neg (show ¬ (Fin.natAdd 4 e).val < 4 by simp), sel0]

/-- The sum that picks one row. -/
theorem sum_pick (f : Fin 32 → EReal) (k : Fin 32) :
    (∑ x : Fin 32, Scalar.select (IntOp.cmpi .eq (BitVec.ofNat 32 x.val) (BitVec.ofNat 32 k.val)) (f x) 0) = f k := by
  have h : ∀ x : Fin 32, IntOp.cmpi .eq (BitVec.ofNat 32 x.val) (BitVec.ofNat 32 k.val) = if k = x then 1#1 else 0#1 := by
    revert k; decide
  have h2 : ∀ x : Fin 32, Scalar.select (if k = x then 1#1 else 0#1) (f x) 0 = if k = x then f x else 0 := by
    intro x
    by_cases hx : k = x
    · rw [if_pos hx, if_pos hx, sel1]
    · rw [if_neg hx, if_neg hx, sel0]
  simp only [h, h2]
  rw [Finset.sum_ite_eq, if_pos (Finset.mem_univ _)]

/-- The greatest of the rows below 4 is a real when all rows are. -/
theorem max_lt4 (L : Fin 32 → ℝ) : ∃ M : ℝ,
    Finset.fold max (⊥ : EReal) (fun x : Fin 32 => Scalar.select (IntOp.cmpi .slt (BitVec.ofNat 32 x.val) 4#32) ((L x : ℝ) : EReal) ⊥) Finset.univ = (M : EReal) := by
  set v := Finset.fold max (⊥ : EReal) (fun x : Fin 32 => Scalar.select (IntOp.cmpi .slt (BitVec.ofNat 32 x.val) 4#32) ((L x : ℝ) : EReal) ⊥) Finset.univ with hv
  have h1 : v < ⊤ := by
    rw [hv, Finset.fold_max_lt]
    refine ⟨bot_lt_top, fun x _ => ?_⟩
    unfold Scalar.select
    split
    · exact EReal.coe_lt_top _
    · exact bot_lt_top
  have h2 : (⊥ : EReal) < v := by
    rw [hv, Finset.lt_fold_max]
    refine Or.inr ⟨0, Finset.mem_univ _, ?_⟩
    rw [lt4, if_pos (by decide), sel1]
    exact EReal.bot_lt_coe _
  exact ⟨v.toReal, (EReal.coe_toReal h1.ne h2.ne').symm⟩

end Cert.Experts

end
-- ==== Proof.Experts.Args.lean ====
/- The call's arguments as functions of plain indices, the value that both programs end with, and what it is for a program's
   arrays to hold these arguments. Nothing here mentions a program. -/
module

public import proofs.«01_k».proof.Proof.Experts.Spec
public import Idealize.ShloMosaic.Lib.Pointwise

@[expose] public section

noncomputable section

namespace Cert.Experts

open Idealize.ShloMosaic Idealize.ShloMosaic.Pointwise

/-- The arguments: for each of the 152 tiles its two experts, of one group, and its count of valid rows; the packed rows, the
    gain, the two routers and the experts' three matrices. The experts' matrices need not be real. -/
structure Args where
  lo : Fin 152 → Fin 16
  hi : Fin 152 → Fin 16
  same : ∀ t, grp (hi t) = grp (lo t)
  valid : Fin 152 → BitVec 32
  xs : Fin 311296 → Fin 128 → ℝ
  g : Fin 1024 → ℝ
  wrg : Fin 4 → Fin 1024 → ℝ
  brg : Fin 4 → ℝ
  wre : Fin 16 → Fin 1024 → ℝ
  bre : Fin 16 → ℝ
  wg : Fin 16 → Fin 1024 → Fin 512 → EReal
  wu : Fin 16 → Fin 1024 → Fin 512 → EReal
  wd : Fin 16 → Fin 512 → Fin 1024 → EReal

namespace Args

variable (A : Args) (t : Fin 152) (r : Fin 256)

/-- Row `r` of tile `t`: eight packed lines of 128. -/
def x (d : Fin 1024) : ℝ := A.xs ⟨t.val * 2048 + r.val * 8 + d.val / 128, by omega⟩ ⟨d.val % 128, Nat.mod_lt _ (by decide)⟩
/-- The row, normalised. -/
def h (d : Fin 1024) : ℝ := nrm (A.x t r) A.g d
/-- The groups' logits. -/
def lg (e : Fin 4) : ℝ := logit (A.h t r) (A.wrg e) (A.brg e)
/-- The experts' logits. -/
def le (e : Fin 16) : ℝ := logit (A.h t r) (A.wre e) (A.bre e)
/-- The probability of the group of the tile's experts. -/
def p : ℝ := soft (A.lg t r) (grp (A.lo t))
/-- The gate of the tile's first expert. -/
def glo : ℝ := gate (A.p t r) (A.le t r (A.lo t)) (A.le t r (A.hi t))
/-- The gate of the tile's second expert. -/
def ghi : ℝ := gate (A.p t r) (A.le t r (A.hi t)) (A.le t r (A.lo t))
/-- Expert `e`'s inner activations of the row. -/
def act (e : Fin 16) (f : Fin 512) : EReal :=
  (∑ d, (A.h t r d : EReal) * A.wg e d f) * Ideal.logistic (∑ d, (A.h t r d : EReal) * A.wg e d f) * ∑ d, (A.h t r d : EReal) * A.wu e d f
/-- Expert `e`'s feed-forward of the row. -/
def ffn (e : Fin 16) (d : Fin 1024) : EReal := ∑ f, A.act t r e f * A.wd e f d
/-- The row with its residual: the two experts' feed-forwards times their gates. -/
def y (d : Fin 1024) : EReal :=
  ((A.x t r d : EReal) + (A.glo t r : EReal) * A.ffn t r (A.lo t) d) + (A.ghi t r : EReal) * A.ffn t r (A.hi t) d
/-- The result: a tile without valid rows is zero. -/
def out (d : Fin 1024) : EReal := if 0 < (A.valid t).toInt then A.y t r d else 0

theorem p_nonneg : 0 ≤ A.p t r := (soft_pos _ _).le
theorem glo_nonneg : 0 ≤ A.glo t r := gate_nonneg (A.p_nonneg t r) _ _
theorem ghi_nonneg : 0 ≤ A.ghi t r := gate_nonneg (A.p_nonneg t r) _ _

/-- The result as the array of packed lines. -/
def arr : (⟨2, ![311296, 128]⟩ : Shape).Idx → EReal := fun i =>
  A.out ⟨(i 0).val / 2048, by have h : (i 0).val < 311296 := (i 0).isLt; omega⟩ ⟨(i 0).val / 8 % 256, Nat.mod_lt _ (by decide)⟩
    ⟨(i 0).val % 8 * 128 + (i 1).val, by have h : (i 1).val < 128 := (i 1).isLt; omega⟩

/-- A program's twelve arrays hold these arguments. -/
structure Held (x0 x1 x2 : (⟨1, ![152]⟩ : Shape).Idx → BitVec 32) (x3 : (⟨2, ![311296, 128]⟩ : Shape).Idx → EReal)
    (x4 : (⟨2, ![1, 1024]⟩ : Shape).Idx → EReal) (x5 : (⟨2, ![1024, 4]⟩ : Shape).Idx → EReal) (x6 : (⟨1, ![4]⟩ : Shape).Idx → EReal)
    (x7 : (⟨2, ![1024, 16]⟩ : Shape).Idx → EReal) (x8 : (⟨1, ![16]⟩ : Shape).Idx → EReal)
    (x9 x10 : (⟨3, ![16, 1024, 512]⟩ : Shape).Idx → EReal) (x11 : (⟨3, ![16, 512, 1024]⟩ : Shape).Idx → EReal) : Prop where
  lo : ∀ t, x0 (ix1 t) = BitVec.ofNat 32 (A.lo t).val
  hi : ∀ t, x1 (ix1 t) = BitVec.ofNat 32 (A.hi t).val
  valid : ∀ t, x2 (ix1 t) = A.valid t
  xs : ∀ a l, x3 (ix2 a l) = (A.xs a l : EReal)
  g : ∀ d, x4 (ix2 0 d) = (A.g d : EReal)
  wrg : ∀ d e, x5 (ix2 d e) = (A.wrg e d : EReal)
  brg : ∀ e, x6 (ix1 e) = (A.brg e : EReal)
  wre : ∀ d e, x7 (ix2 d e) = (A.wre e d : EReal)
  bre : ∀ e, x8 (ix1 e) = (A.bre e : EReal)
  wg : ∀ e d f, x9 (ix3 e d f) = A.wg e d f
  wu : ∀ e d f, x10 (ix3 e d f) = A.wu e d f
  wd : ∀ e f d, x11 (ix3 e f d) = A.wd e f d

end Args

end Cert.Experts

end
-- ==== Proof.Experts.Body.lean ====
/- The kernel body's values read at an index, for blocks that hold a tile's part of the arguments: the normalised rows, the
   router's logits, the group's probability, the two gates, an expert's inner activations, the row that is stored. -/
module

public import proofs.«01_k».proof.Proof.Gen.MoeIdeal.Skeleton
public import proofs.«01_k».proof.Proof.Experts.Args

@[expose] public section

set_option maxRecDepth 16384

noncomputable section

namespace Cert.Experts.Args

variable (A : Args) (t : Fin 152) (r : Fin 256)

/-- The kernel's table of router rows: the groups' 4, the experts' 16, then zeros. -/
def w32 (e : Fin 32) (d : Fin 1024) : ℝ :=
  if h : e.val < 4 then A.wrg ⟨e.val, h⟩ d else if h : e.val < 20 then A.wre ⟨e.val - 4, by omega⟩ d else 0
/-- The kernel's table of biases. -/
def b32 (e : Fin 32) : ℝ :=
  if h : e.val < 4 then A.brg ⟨e.val, h⟩ else if h : e.val < 20 then A.bre ⟨e.val - 4, by omega⟩ else 0
/-- The kernel's column of logits. -/
def l32 (e : Fin 32) : ℝ := logit (A.h t r) (A.w32 e) (A.b32 e)

theorem l32_lg (e : Fin 4) (h : e.val < 32) : A.l32 t r ⟨e.val, h⟩ = A.lg t r e := by
  have hw : A.w32 ⟨e.val, h⟩ = A.wrg e := funext fun d => by unfold w32; rw [dif_pos e.isLt]
  have hb : A.b32 ⟨e.val, h⟩ = A.brg e := by unfold b32; rw [dif_pos e.isLt]
  unfold l32 lg
  rw [hw, hb]

theorem l32_le (e : Fin 16) (h : 4 + e.val < 32) : A.l32 t r ⟨4 + e.val, h⟩ = A.le t r e := by
  have he : (⟨4 + e.val - 4, by omega⟩ : Fin 16) = e := Fin.ext (by dsimp only; omega)
  have hw : A.w32 ⟨4 + e.val, h⟩ = A.wre e := funext fun d => by
    unfold w32; rw [dif_neg (by dsimp only; omega), dif_pos (by dsimp only; omega), he]
  have hb : A.b32 ⟨4 + e.val, h⟩ = A.bre e := by
    unfold b32; rw [dif_neg (by dsimp only; omega), dif_pos (by dsimp only; omega), he]
  unfold l32 le
  rw [hw, hb]

end Cert.Experts.Args

namespace Cert.MoeIdeal.Body

open Cert.MoeIdeal Cert.MoeIdeal.Gen Cert.Experts Idealize.ShloMosaic Idealize.ShloMosaic.Pointwise

variable {A : Args} {t : Fin 152}

variable {v10 v11 v12 v13 v14 v15 v16 v17 : Vec Ideal S256x128 .f32} {v29 : Vec Ideal S1x1024 .f32}

theorem dif_eq {p : Prop} [Decidable p] {a : p → EReal} {b : ¬p → EReal} {v : EReal} (h1 : ∀ h, a h = v) (h2 : ∀ h, b h = v) : dite p a b = v := by
  split
  · exact h1 _
  · exact h2 _

/-- The eight loads' lines side by side are the tile's rows. -/
theorem pay3_eq
    (h0 : ∀ (r : Fin 256) (l : Fin 128), v10 (ix2 r l) = (A.xs ⟨t.val * 2048 + (8 * r.val + 0), by omega⟩ l : EReal))
    (h1 : ∀ (r : Fin 256) (l : Fin 128), v11 (ix2 r l) = (A.xs ⟨t.val * 2048 + (8 * r.val + 1), by omega⟩ l : EReal))
    (h2 : ∀ (r : Fin 256) (l : Fin 128), v12 (ix2 r l) = (A.xs ⟨t.val * 2048 + (8 * r.val + 2), by omega⟩ l : EReal))
    (h3 : ∀ (r : Fin 256) (l : Fin 128), v13 (ix2 r l) = (A.xs ⟨t.val * 2048 + (8 * r.val + 3), by omega⟩ l : EReal))
    (h4 : ∀ (r : Fin 256) (l : Fin 128), v14 (ix2 r l) = (A.xs ⟨t.val * 2048 + (8 * r.val + 4), by omega⟩ l : EReal))
    (h5 : ∀ (r : Fin 256) (l : Fin 128), v15 (ix2 r l) = (A.xs ⟨t.val * 2048 + (8 * r.val + 5), by omega⟩ l : EReal))
    (h6 : ∀ (r : Fin 256) (l : Fin 128), v16 (ix2 r l) = (A.xs ⟨t.val * 2048 + (8 * r.val + 6), by omega⟩ l : EReal))
    (h7 : ∀ (r : Fin 256) (l : Fin 128), v17 (ix2 r l) = (A.xs ⟨t.val * 2048 + (8 * r.val + 7), by omega⟩ l : EReal))
    (r : Fin 256) (d : Fin 1024) : k0_pay3 v10 v11 v12 v13 v14 v15 v16 v17 (ix2 r d) = (A.x t r d : EReal) := by
  have key : ∀ (j : ℕ) (hj : j < 8) (l : Fin 128), d.val = j * 128 + l.val → (A.xs ⟨t.val * 2048 + (8 * r.val + j), by omega⟩ l : EReal) = (A.x t r d : EReal) := by
    intro j hj l h
    unfold Args.x
    congr 2
    · exact Fin.ext (by dsimp only; omega)
    · exact Fin.ext (by dsimp only; omega)
  pointwise [k0_pay3]
  refine dif_eq (fun _ => (h0 _ _).trans (key 0 (by omega) _ (by dsimp only; omega))) fun _ => ?_
  refine dif_eq (fun _ => (h1 _ _).trans (key 1 (by omega) _ (by dsimp only; omega))) fun _ => ?_
  refine dif_eq (fun _ => (h2 _ _).trans (key 2 (by omega) _ (by dsimp only; omega))) fun _ => ?_
  refine dif_eq (fun _ => (h3 _ _).trans (key 3 (by omega) _ (by dsimp only; omega))) fun _ => ?_
  refine dif_eq (fun _ => (h4 _ _).trans (key 4 (by omega) _ (by dsimp only; omega))) fun _ => ?_
  refine dif_eq (fun _ => (h5 _ _).trans (key 5 (by omega) _ (by dsimp only; omega))) fun _ => ?_
  refine dif_eq (fun _ => (h6 _ _).trans (key 6 (by omega) _ (by dsimp only; omega))) fun _ => ?_
  exact (h7 _ _).trans (key 7 (by omega) _ (by dsimp only; omega))

/-- The normalised rows. -/
theorem pay4_eq (hx : ∀ r d, k0_pay3 v10 v11 v12 v13 v14 v15 v16 v17 (ix2 r d) = (A.x t r d : EReal)) (hg : ∀ d, v29 (ix2 0 d) = (A.g d : EReal))
    (r : Fin 256) (d : Fin 1024) : k0_pay4 v10 v11 v12 v13 v14 v15 v16 v17 v29 (ix2 r d) = (A.h t r d : EReal) := by
  unfold k0_pay4
  revert hx
  generalize k0_pay3 v10 v11 v12 v13 v14 v15 v16 v17 = x
  intro hx
  pointwise
  simp only [hx, hg, Consts.ofBits_1024, Consts.ofBits_eps]
  exact nrm_eq _ _ _

/-- The columns of logits. -/
theorem pay5_eq {v33 : Vec Ideal S32x1024 .bf16} {v36 : Vec Ideal S32x1 .f32}
    (hh : ∀ r d, k0_pay4 v10 v11 v12 v13 v14 v15 v16 v17 v29 (ix2 r d) = (A.h t r d : EReal))
    (hw : ∀ e d, v33 (ix2 e d) = (A.w32 e d : EReal)) (hb : ∀ e, v36 (ix2 e 0) = (A.b32 e : EReal)) (e : Fin 32) (r : Fin 256) :
    k0_pay5 v10 v11 v12 v13 v14 v15 v16 v17 v29 v33 v36 (ix2 e r) = (A.l32 t r e : EReal) := by
  unfold k0_pay5
  revert hh
  generalize k0_pay4 v10 v11 v12 v13 v14 v15 v16 v17 v29 = h
  intro hh
  pointwise
  simp only [hh, hw, hb]
  exact logit_eq' _ _ _

/-- The group's number, as the kernel divides the expert's number by 4. -/
theorem group_word : ∀ k : Fin 16, Scalar.select
                  (Scalar.andi
                    (Scalar.cmpi CmpIPredicate.ne
                      (Scalar.subi (Scalar.extui (Scalar.cmpi CmpIPredicate.sgt (BitVec.ofNat 32 k.val) 0#32))
                        (Scalar.extui (Scalar.cmpi CmpIPredicate.slt (BitVec.ofNat 32 k.val) 0#32)))
                      (Scalar.subi (Scalar.extui (Scalar.cmpi CmpIPredicate.sgt 4#32 0#32))
                        (Scalar.extui (Scalar.cmpi CmpIPredicate.slt 4#32 0#32))))
                    (Scalar.cmpi CmpIPredicate.ne (Scalar.remsi (BitVec.ofNat 32 k.val) 4#32) 0#32))
                  (Scalar.subi (Scalar.divsi (BitVec.ofNat 32 k.val) 4#32) 1#32) (Scalar.divsi (BitVec.ofNat 32 k.val) 4#32)
    = BitVec.ofNat 32 (k.val / 4) := by decide +kernel

/-- The group's probability. -/
theorem pay6_eq {L : FVec Ideal S32x256 .f32} (hl : ∀ e r, L (ix2 e r) = (A.l32 t r e : EReal)) (r : Fin 256) :
    k0_pay6 L (iota .tc S32x256 32 [0] iota_S32x256_d0_w32) (BitVec.ofNat 32 (A.lo t).val) (ix2 0 r) = (A.p t r : EReal) := by
  unfold k0_pay6
  pointwise
  simp only [hl, group_word, Consts.ofBits_ninf]
  obtain ⟨M, hM⟩ := max_lt4 (A.l32 t r)
  rw [hM, sum_lt4 (fun e => Ideal.exp ((A.l32 t r e : EReal) - (M : EReal))),
    sum_pick (fun e => (A.l32 t r e : EReal)) ⟨(A.lo t).val / 4, by omega⟩]
  simp only [Args.l32_lg]
  rw [show A.l32 t r ⟨(A.lo t).val / 4, by omega⟩ = A.lg t r (grp (A.lo t)) from Args.l32_lg A t r (grp (A.lo t)) (by have := (grp (A.lo t)).isLt; omega)]
  exact soft_shift _ _ _

theorem expert_word : ∀ k : Fin 16, Scalar.addi 4#32 (BitVec.ofNat 32 k.val) = BitVec.ofNat 32 (4 + k.val) := by decide

/-- The two gates, as columns. -/
theorem pay9_eq {L : FVec Ideal S32x256 .f32} (hl : ∀ e r, L (ix2 e r) = (A.l32 t r e : EReal)) {p : FVec Ideal S1x256 .f32}
    (hp : ∀ r, p (ix2 0 r) = (A.p t r : EReal)) (r : Fin 256) :
    k0_pay9 L (iota .tc S32x256 32 [0] iota_S32x256_d0_w32) (BitVec.ofNat 32 (A.hi t).val) p
        (k0_pay7 (F := Ideal) (iota .tc S32x256 32 [0] iota_S32x256_d0_w32) (BitVec.ofNat 32 (A.lo t).val)) (k0_pay8 (F := Ideal)) (ix2 r 0) = (A.glo t r : EReal)
    ∧ k0_pay9 L (iota .tc S32x256 32 [0] iota_S32x256_d0_w32) (BitVec.ofNat 32 (A.hi t).val) p
        (k0_pay7 (F := Ideal) (iota .tc S32x256 32 [0] iota_S32x256_d0_w32) (BitVec.ofNat 32 (A.lo t).val)) (k0_pay8 (F := Ideal)) (ix2 r 1) = (A.ghi t r : EReal) := by
  have hlo := sum_pick (fun e => (A.l32 t r e : EReal)) ⟨4 + (A.lo t).val, by omega⟩
  have hhi := sum_pick (fun e => (A.l32 t r e : EReal)) ⟨4 + (A.hi t).val, by omega⟩
  dsimp only at hlo hhi
  rw [Args.l32_le A t r] at hlo hhi
  have hmax : max (A.le t r (A.lo t) : EReal) (A.le t r (A.hi t) : EReal) = ((max (A.le t r (A.lo t)) (A.le t r (A.hi t)) : ℝ) : EReal) :=
    (EReal.coe_strictMono.monotone.map_max).symm
  unfold k0_pay9 k0_pay7 k0_pay8
  constructor
  · pointwise
    simp only [hl, hp, expert_word, hlo, hhi, hmax]
    exact gate_shift _ _ _ _
  · pointwise
    simp only [hl, hp, expert_word, hlo, hhi, hmax]
    exact gate_shift' _ _ _ _

theorem pay10_eq (L : FVec Ideal S32x256 .f32) (v40 : IVec S32x256 32) (w44 : BitVec 32) (v83 : FVec Ideal S1x256 .f32) (v86 : IVec S32x256 1) (v87 : FVec Ideal S32x256 .f32) (r : Fin 256) :
    k0_pay10 L v40 w44 v83 v86 v87 (ix2 r 0) = k0_pay9 L v40 w44 v83 v86 v87 (ix2 r 0) := by
  unfold k0_pay10
  generalize k0_pay9 L v40 w44 v83 v86 v87 = g
  pointwise

/-- An expert's inner activations, from the block with its two matrices side by side. -/
theorem pay11_eq {h : FVec Ideal S256x1024 .bf16} {w : Vec Ideal S1x1024x1024 .bf16} {e : Fin 16}
    (hh : ∀ r d, h (ix2 r d) = (A.h t r d : EReal)) (hw : ∀ d f, w (ix3 0 d f) = if hf : f.val < 512 then A.wg e d ⟨f.val, hf⟩ else A.wu e d ⟨f.val - 512, by omega⟩)
    (r : Fin 256) (f : Fin 512) : k0_pay11 h w (ix2 r f) = A.act t r e f := by
  have h1 : ∀ d, w (ix3 0 d ⟨f.val, by omega⟩) = A.wg e d f := fun d => by rw [hw, dif_pos f.isLt]
  have h2 : ∀ d, w (ix3 0 d ⟨512 + f.val, by omega⟩) = A.wu e d f := fun d => by
    rw [hw, dif_neg (by dsimp only; omega)]
    exact congrArg (A.wu e d) (Fin.ext (by dsimp only; omega))
  unfold k0_pay11
  pointwise
  simp only [hh, h1, h2]
  rfl

/-- The rows that are stored. -/
theorem pay13_apply (x : FVec Ideal S256x1024 .f32) (h : FVec Ideal S256x1024 .bf16) (g : FVec Ideal S256x128 .f32) (g0 : FVec Ideal S256x1 .f32)
    (a : FVec Ideal S256x512 .bf16) (dn : FVec Ideal S512x1024 .bf16) (gu1 : Vec Ideal S1x1024x1024 .bf16) (dn1 : Vec Ideal S1x512x1024 .bf16) (r : Fin 256) (d : Fin 1024) :
    k0_pay13 x h g g0 a dn gu1 dn1 (ix2 r d) = (x (ix2 r d) + g0 (ix2 r 0) * ∑ f : Fin 512, a (ix2 r f) * dn (ix2 f d))
      + g (ix2 r 1) * ∑ f : Fin 512, k0_pay11 h gu1 (ix2 r f) * dn1 (ix3 0 f d) := by
  have e : k0_pay13 x h g g0 a dn gu1 dn1 = addf (addf x (mulf (broadcastTo S256x1024 g0 broadcasts_S256x1_S256x1024)
        (matmul dot_S256x512_S512x1024_S256x1024_1_0_0_1_n_n none a dn (constant S256x1024 .f32 0x00000000#32))))
      (mulf (broadcastTo S256x1024 (extractStridedSlice S256x1 ![0, 1] g slices_S256x128_o0_1_S256x1) broadcasts_S256x1_S256x1024)
        (matmul dot_S256x512_S512x1024_S256x1024_1_0_0_1_n_n none (k0_pay11 h gu1) (k0_pay12 dn1) (constant S256x1024 .f32 0x00000000#32))) := rfl
  rw [e]
  unfold k0_pay12
  generalize k0_pay11 h gu1 = a1
  pointwise

theorem pay12_apply (dn : Vec Ideal S1x512x1024 .bf16) (f : Fin 512) (d : Fin 1024) : k0_pay12 dn (ix2 f d) = dn (ix3 0 f d) := by
  unfold k0_pay12
  pointwise

section Slices

variable (x : FVec Ideal S256x1024 .f32) (h : FVec Ideal S256x1024 .bf16) (g : FVec Ideal S256x128 .f32) (g0 : FVec Ideal S256x1 .f32)
  (a : FVec Ideal S256x512 .bf16) (dn : FVec Ideal S512x1024 .bf16) (gu1 : Vec Ideal S1x1024x1024 .bf16) (dn1 : Vec Ideal S1x512x1024 .bf16)

/-! The eight stored slices of the rows: slice `j` holds the columns from 128 j to 128 j + 127. -/

theorem pay14_apply (r : Fin 256) (l : Fin 128) :
    k0_pay14 x h g g0 a dn gu1 dn1 (ix2 r l) = k0_pay13 x h g g0 a dn gu1 dn1 (ix2 r ⟨0 * 128 + l.val, by omega⟩) := by
  unfold k0_pay14
  generalize k0_pay13 x h g g0 a dn gu1 dn1 = y
  pointwise

theorem pay15_apply (r : Fin 256) (l : Fin 128) :
    k0_pay15 x h g g0 a dn gu1 dn1 (ix2 r l) = k0_pay13 x h g g0 a dn gu1 dn1 (ix2 r ⟨1 * 128 + l.val, by omega⟩) := by
  unfold k0_pay15
  generalize k0_pay13 x h g g0 a dn gu1 dn1 = y
  pointwise

theorem pay16_apply (r : Fin 256) (l : Fin 128) :
    k0_pay16 x h g g0 a dn gu1 dn1 (ix2 r l) = k0_pay13 x h g g0 a dn gu1 dn1 (ix2 r ⟨2 * 128 + l.val, by omega⟩) := by
  unfold k0_pay16
  generalize k0_pay13 x h g g0 a dn gu1 dn1 = y
  pointwise

theorem pay17_apply (r : Fin 256) (l : Fin 128) :
    k0_pay17 x h g g0 a dn gu1 dn1 (ix2 r l) = k0_pay13 x h g g0 a dn gu1 dn1 (ix2 r ⟨3 * 128 + l.val, by omega⟩) := by
  unfold k0_pay17
  generalize k0_pay13 x h g g0 a dn gu1 dn1 = y
  pointwise

theorem pay18_apply (r : Fin 256) (l : Fin 128) :
    k0_pay18 x h g g0 a dn gu1 dn1 (ix2 r l) = k0_pay13 x h g g0 a dn gu1 dn1 (ix2 r ⟨4 * 128 + l.val, by omega⟩) := by
  unfold k0_pay18
  generalize k0_pay13 x h g g0 a dn gu1 dn1 = y
  pointwise

theorem pay19_apply (r : Fin 256) (l : Fin 128) :
    k0_pay19 x h g g0 a dn gu1 dn1 (ix2 r l) = k0_pay13 x h g g0 a dn gu1 dn1 (ix2 r ⟨5 * 128 + l.val, by omega⟩) := by
  unfold k0_pay19
  generalize k0_pay13 x h g g0 a dn gu1 dn1 = y
  pointwise

theorem pay20_apply (r : Fin 256) (l : Fin 128) :
    k0_pay20 x h g g0 a dn gu1 dn1 (ix2 r l) = k0_pay13 x h g g0 a dn gu1 dn1 (ix2 r ⟨6 * 128 + l.val, by omega⟩) := by
  unfold k0_pay20
  generalize k0_pay13 x h g g0 a dn gu1 dn1 = y
  pointwise

theorem pay1_apply (y : FVec Ideal S256x1024 .f32) (r : Fin 256) (l : Fin 128) : k0_pay1 y (ix2 r l) = y (ix2 r ⟨7 * 128 + l.val, by omega⟩) := by
  unfold k0_pay1
  pointwise

end Slices

/-- The rows that are stored, from what the values before them hold. -/
theorem rows_eq {x : FVec Ideal S256x1024 .f32} {h : FVec Ideal S256x1024 .bf16} {g : FVec Ideal S256x128 .f32} {g0 : FVec Ideal S256x1 .f32}
    {a : FVec Ideal S256x512 .bf16} {dn : FVec Ideal S512x1024 .bf16} {gu1 : Vec Ideal S1x1024x1024 .bf16} {dn1 : Vec Ideal S1x512x1024 .bf16}
    (hx : ∀ r d, x (ix2 r d) = (A.x t r d : EReal)) (hh : ∀ r d, h (ix2 r d) = (A.h t r d : EReal))
    (hg : ∀ r, g (ix2 r 1) = (A.ghi t r : EReal)) (hg0 : ∀ r, g0 (ix2 r 0) = (A.glo t r : EReal))
    (ha : ∀ r f, a (ix2 r f) = A.act t r (A.lo t) f) (hdn : ∀ f d, dn (ix2 f d) = A.wd (A.lo t) f d)
    (hgu1 : ∀ d f, gu1 (ix3 0 d f) = if hf : f.val < 512 then A.wg (A.hi t) d ⟨f.val, hf⟩ else A.wu (A.hi t) d ⟨f.val - 512, by omega⟩)
    (hdn1 : ∀ f d, dn1 (ix3 0 f d) = A.wd (A.hi t) f d) (r : Fin 256) (d : Fin 1024) :
    k0_pay13 x h g g0 a dn gu1 dn1 (ix2 r d) = A.y t r d := by
  rw [pay13_apply]
  simp only [hx, hg, hg0, ha, hdn, hdn1, pay11_eq hh hgu1]
  rfl

end Cert.MoeIdeal.Body

end
-- ==== Proof.Experts.Tile.lean ====
/- What the body stores at a block with tokens, from what its inputs hold. -/
module

public import proofs.«01_k».proof.Proof.Experts.Frame
public import proofs.«01_k».proof.Proof.Experts.Body
public import Idealize.ShloMosaic.Lib.WholeRead

@[expose] public section

set_option maxRecDepth 16384

noncomputable section

namespace Cert.MoeIdeal.Own

open Cert.MoeIdeal Cert.MoeIdeal.Gen Cert.MoeIdeal.Body Cert.Experts Idealize.ShloMosaic Idealize.ShloMosaic.TcCoe Idealize.ShloMosaic.Pointwise

/-- A whole block's load reads the block: of two axes, -/
theorem ld2 {sg : RefSig} {p q : ℕ} {e : EltTy} {m : Memref sg .tc .vmem ⟨2, ![p, q]⟩ e} (h : m.IsWhole) (X : (⟨2, ![p, q]⟩ : Shape).Idx → Elt Ideal e)
    (hin : ∀ a, (![0, 0] : Fin 2 → ℕ) a + (⟨2, ![p, q]⟩ : Shape).size a ≤ (⟨2, ![p, q]⟩ : Shape).size a) (r : Fin p) (d : Fin q) :
    View.readAt (Elt Ideal) m.view (Rect.unit (s := ⟨2, ![p, q]⟩) ![0, 0] (⟨2, ![p, q]⟩ : Shape).size hin).toLoadRect (h.unread X) (ix2 r d) = X (ix2 r d) :=
  (h.readAt_unread X _ _).trans (congrArg X (funext fun a => Fin.ext (by
    match a with
    | ⟨0, _⟩ => show 0 + 1 * r.val = r.val; omega
    | ⟨1, _⟩ => show 0 + 1 * d.val = d.val; omega)))

/-- and of three. -/
theorem ld3 {sg : RefSig} {n p q : ℕ} {e : EltTy} {m : Memref sg .tc .vmem ⟨3, ![n, p, q]⟩ e} (h : m.IsWhole) (X : (⟨3, ![n, p, q]⟩ : Shape).Idx → Elt Ideal e)
    (hin : ∀ a, (![0, 0, 0] : Fin 3 → ℕ) a + (⟨3, ![n, p, q]⟩ : Shape).size a ≤ (⟨3, ![n, p, q]⟩ : Shape).size a) (k : Fin n) (r : Fin p) (d : Fin q) :
    View.readAt (Elt Ideal) m.view (Rect.unit (s := ⟨3, ![n, p, q]⟩) ![0, 0, 0] (⟨3, ![n, p, q]⟩ : Shape).size hin).toLoadRect (h.unread X) (ix3 k r d) = X (ix3 k r d) :=
  (h.readAt_unread X _ _).trans (congrArg X (funext fun a => Fin.ext (by
    match a with
    | ⟨0, _⟩ => show 0 + 1 * k.val = k.val; omega
    | ⟨1, _⟩ => show 0 + 1 * r.val = r.val; omega
    | ⟨2, _⟩ => show 0 + 1 * d.val = d.val; omega)))

/-- The load number `j` of the tile's lines reads every eighth line from line `j` on. -/
theorem ldRow {m : Memref sig .tc .vmem S2048x128 .f32} (h : m.IsWhole) (X : S2048x128.Idx → Elt Ideal .f32) (j : Fin 8) (r : Fin 256) (l : Fin 128) :
    View.readAt (Elt Ideal) m.view (rowRect j).toLoadRect (h.unread X) (ix2 r l) = X (ix2 ⟨8 * r.val + j.val, by omega⟩ l) :=
  (h.readAt_unread X _ _).trans (congrArg X (funext fun a => Fin.ext (by
    match a with
    | ⟨0, _⟩ => show j.val + 8 * r.val = 8 * r.val + j.val; omega
    | ⟨1, _⟩ => show 0 + 1 * l.val = l.val; omega)))

/-- A tile's row is a row of the array. -/
theorem row_lt (t : Fin 152) (a : Fin 2048) : t.val * 2048 + a.val < 311296 := by omega
/-- A column of the joined projections' second half. -/
theorem half_lt (f : Fin 1024) : f.val - 512 < 512 := by omega

/-- The block that holds a tile's rows: eight packed lines a row. -/
def tileArr (A : Args) (t : Fin 152) : S2048x128.Idx → EReal := fun y =>
  A.y t ⟨(y 0).val / 8, by have h : (y 0).val < 2048 := (y 0).isLt; omega⟩ ⟨(y 0).val % 8 * 128 + (y 1).val, by have h : (y 1).val < 128 := (y 1).isLt; omega⟩

/-- A store of the tile's columns `128 j …` puts them where the block holds them. -/
theorem store_eq (A : Args) (t : Fin 152) (j : Fin 8) (w : S256x128.Idx → EReal)
    (hw : ∀ (r : Fin 256) (l : Fin 128), w (ix2 r l) = A.y t r ⟨j.val * 128 + l.val, by omega⟩) (x : S256x128.Idx) :
    w x = tileArr A t ((rowRect j).emb x) := by
  have hx : x = ix2 (x 0) (x 1) := funext fun a => by match a with | ⟨0, _⟩ => rfl | ⟨1, _⟩ => rfl
  have e0 : (((rowRect j).emb x) 0 : ℕ) = j.val + 8 * (x 0).val := rfl
  have e1 : (((rowRect j).emb x) 1 : ℕ) = 0 + 1 * (x 1).val := rfl
  have h0 : (x 0).val < 256 := (x 0).isLt
  refine ((congrArg w hx).trans (hw (x 0) (x 1))).trans ?_
  unfold tileArr
  congr 1
  · exact Fin.ext (by dsimp only; rw [e0]; omega)
  · exact Fin.ext (by dsimp only; rw [e0, e1]; omega)

section Live

variable (A : Args) (t : Fin 152)
variable (c : Dev nD) (i : grid0.Coords) (arg4 : Memref sig .tc .vmem S2048x128 .f32) (harg4 : arg4.IsWhole) (arg5 : Memref sig .tc .vmem S1x1024 .f32) (harg5 : arg5.IsWhole) (arg6 : Memref sig .tc .vmem S32x1024 .bf16) (harg6 : arg6.IsWhole) (arg7 : Memref sig .tc .vmem S32x1 .f32) (harg7 : arg7.IsWhole) (arg8 : Memref sig .tc .vmem S1x1024x1024 .bf16) (harg8 : arg8.IsWhole) (arg9 : Memref sig .tc .vmem S1x512x1024 .bf16) (harg9 : arg9.IsWhole) (arg10 : Memref sig .tc .vmem S1x1024x1024 .bf16) (harg10 : arg10.IsWhole) (arg11 : Memref sig .tc .vmem S1x512x1024 .bf16) (harg11 : arg11.IsWhole) (arg12 : Memref sig .tc .vmem S2048x128 .f32) (harg12 : arg12.IsWhole)
    (x0 : Vec Ideal S2048x128 .f32) (x1 : Vec Ideal S1x1024 .f32) (x2 : Vec Ideal S32x1024 .bf16) (x3 : Vec Ideal S32x1 .f32) (x4 : Vec Ideal S1x1024x1024 .bf16) (x5 : Vec Ideal S1x512x1024 .bf16) (x6 : Vec Ideal S1x1024x1024 .bf16) (x7 : Vec Ideal S1x512x1024 .bf16) (xt0 : TbBuf0 (F := Ideal) c tbM0_0) (xt1 : TbBuf0 (F := Ideal) c tbM0_1) (xt2 : TbBuf0 (F := Ideal) c tbM0_2)
variable (H0 : ∀ a l, x0 (ix2 a l) = (A.xs ⟨t.val * 2048 + a.val, row_lt t a⟩ l : EReal)) (H1 : ∀ d, x1 (ix2 0 d) = (A.g d : EReal))
  (H2 : ∀ e d, x2 (ix2 e d) = (A.w32 e d : EReal)) (H3 : ∀ e, x3 (ix2 e 0) = (A.b32 e : EReal))
  (H4 : ∀ d f, x4 (ix3 0 d f) = if hf : f.val < 512 then A.wg (A.lo t) d ⟨f.val, hf⟩ else A.wu (A.lo t) d ⟨f.val - 512, half_lt f⟩)
  (H5 : ∀ f d, x5 (ix3 0 f d) = A.wd (A.lo t) f d)
  (H6 : ∀ d f, x6 (ix3 0 d f) = if hf : f.val < 512 then A.wg (A.hi t) d ⟨f.val, hf⟩ else A.wu (A.hi t) d ⟨f.val - 512, half_lt f⟩)
  (H7 : ∀ f d, x7 (ix3 0 f d) = A.wd (A.hi t) f d)
  (W0 : runLive.sl.r_1 (F := Ideal) c i xt0 = BitVec.ofNat 32 (A.lo t).val) (W1 : runLive.sl.r_5 (F := Ideal) c i xt1 = BitVec.ofNat 32 (A.hi t).val)

include H0 in
theorem r2_eq (r : Fin 256) (d : Fin 1024) : runLive.sl.r_2 (F := Ideal) c arg4 harg4 x0 (ix2 r d) = (A.x t r d : EReal) := by
  unfold runLive.sl.r_2
  exact pay3_eq (fun r l => (ldRow harg4 x0 0 r l).trans (H0 _ l)) (fun r l => (ldRow harg4 x0 1 r l).trans (H0 _ l))
    (fun r l => (ldRow harg4 x0 2 r l).trans (H0 _ l)) (fun r l => (ldRow harg4 x0 3 r l).trans (H0 _ l))
    (fun r l => (ldRow harg4 x0 4 r l).trans (H0 _ l)) (fun r l => (ldRow harg4 x0 5 r l).trans (H0 _ l))
    (fun r l => (ldRow harg4 x0 6 r l).trans (H0 _ l)) (fun r l => (ldRow harg4 x0 7 r l).trans (H0 _ l)) r d

include H0 H1 in
theorem r3_eq (r : Fin 256) (d : Fin 1024) : runLive.sl.r_3 (F := Ideal) c arg4 harg4 arg5 harg5 x0 x1 (ix2 r d) = (A.h t r d : EReal) := by
  have h := r2_eq A t c arg4 harg4 x0 H0
  unfold runLive.sl.r_2 at h
  unfold runLive.sl.r_3
  exact pay4_eq h (fun d => (ld2 harg5 x1 _ 0 d).trans (H1 d)) r d

include H0 H1 H2 H3 in
theorem r4_eq (e : Fin 32) (r : Fin 256) : runLive.sl.r_4 (F := Ideal) c arg4 harg4 arg5 harg5 arg6 harg6 arg7 harg7 x0 x1 x2 x3 (ix2 e r) = (A.l32 t r e : EReal) := by
  have h := r3_eq A t c arg4 harg4 arg5 harg5 x0 x1 H0 H1
  unfold runLive.sl.r_3 at h
  unfold runLive.sl.r_4
  exact pay5_eq h (fun e d => (ld2 harg6 x2 _ e d).trans (H2 e d)) (fun e => (ld2 harg7 x3 _ e 0).trans (H3 e)) e r

include H0 H1 H2 H3 W0 in
theorem r6_eq (r : Fin 256) : runLive.sl.r_6 (F := Ideal) c i arg4 harg4 arg5 harg5 arg6 harg6 arg7 harg7 x0 x1 x2 x3 xt0 (ix2 0 r) = (A.p t r : EReal) := by
  unfold runLive.sl.r_6
  rw [W0]
  exact pay6_eq (r4_eq A t c arg4 harg4 arg5 harg5 arg6 harg6 arg7 harg7 x0 x1 x2 x3 H0 H1 H2 H3) r

include H0 H1 H2 H3 W0 W1 in
theorem r8_eq (r : Fin 256) :
    runLive.sl.r_8 (F := Ideal) c i arg4 harg4 arg5 harg5 arg6 harg6 arg7 harg7 x0 x1 x2 x3 xt0 xt1 (ix2 r 0) = (A.glo t r : EReal)
    ∧ runLive.sl.r_8 (F := Ideal) c i arg4 harg4 arg5 harg5 arg6 harg6 arg7 harg7 x0 x1 x2 x3 xt0 xt1 (ix2 r 1) = (A.ghi t r : EReal) := by
  unfold runLive.sl.r_8 runLive.sl.r_7 runLive.sl.v40
  rw [W0, W1]
  exact pay9_eq (r4_eq A t c arg4 harg4 arg5 harg5 arg6 harg6 arg7 harg7 x0 x1 x2 x3 H0 H1 H2 H3)
    (r6_eq A t c i arg4 harg4 arg5 harg5 arg6 harg6 arg7 harg7 x0 x1 x2 x3 xt0 H0 H1 H2 H3 W0) r

include H0 H1 H2 H3 W0 W1 in
theorem r9_eq (r : Fin 256) :
    runLive.sl.r_9 (F := Ideal) c i arg4 harg4 arg5 harg5 arg6 harg6 arg7 harg7 x0 x1 x2 x3 xt0 xt1 (ix2 r 0) = (A.glo t r : EReal) := by
  have h := (r8_eq A t c i arg4 harg4 arg5 harg5 arg6 harg6 arg7 harg7 x0 x1 x2 x3 xt0 xt1 H0 H1 H2 H3 W0 W1 r).1
  unfold runLive.sl.r_8 at h
  unfold runLive.sl.r_9
  exact (pay10_eq _ _ _ _ _ _ r).trans h

include H0 H1 H4 in
theorem r10_eq (r : Fin 256) (f : Fin 512) : runLive.sl.r_10 (F := Ideal) c arg4 harg4 arg5 harg5 arg8 harg8 x0 x1 x4 (ix2 r f) = A.act t r (A.lo t) f := by
  have h := r3_eq A t c arg4 harg4 arg5 harg5 x0 x1 H0 H1
  unfold runLive.sl.r_10
  exact pay11_eq h (fun d f => (ld3 harg8 x4 _ 0 d f).trans (H4 d f)) r f

include H5 in
theorem r11_eq (f : Fin 512) (d : Fin 1024) : runLive.sl.r_11 (F := Ideal) c arg9 harg9 x5 (ix2 f d) = A.wd (A.lo t) f d := by
  unfold runLive.sl.r_11
  exact (pay12_apply _ f d).trans ((ld3 harg9 x5 _ 0 f d).trans (H5 f d))

set_option maxHeartbeats 1000000 in
include H0 H1 H2 H3 H4 H5 H6 H7 W0 W1 in
/-- Every piece that the body stores is the tile's part there. -/
theorem live_eq (hc1 : k0_cond1 (word c i xt2) = 1#1) (hc2 : ¬k0_cond2 (word c i xt2) = 1#1) :
    ∀ p ∈ (runLive c i arg4 harg4 arg5 harg5 arg6 harg6 arg7 harg7 arg8 harg8 arg9 harg9 arg10 harg10 arg11 harg11 arg12 harg12 x0 x1 x2 x3 x4 x5 x6 x7 xt0 xt1 xt2 hc1 hc2).1, ∀ x, p.2 x = tileArr A t (p.1.emb x) := by
  have key := rows_eq (r2_eq A t c arg4 harg4 x0 H0) (r3_eq A t c arg4 harg4 arg5 harg5 x0 x1 H0 H1)
    (fun r => (r8_eq A t c i arg4 harg4 arg5 harg5 arg6 harg6 arg7 harg7 x0 x1 x2 x3 xt0 xt1 H0 H1 H2 H3 W0 W1 r).2)
    (r9_eq A t c i arg4 harg4 arg5 harg5 arg6 harg6 arg7 harg7 x0 x1 x2 x3 xt0 xt1 H0 H1 H2 H3 W0 W1)
    (r10_eq A t c arg4 harg4 arg5 harg5 arg8 harg8 x0 x1 x4 H0 H1 H4) (r11_eq A t c arg9 harg9 x5 H5)
    (fun d f => (ld3 harg10 x6 inb_S1x1024x1024_S1x1024x1024_0_0_0 0 d f).trans (H6 d f))
    (fun f d => (ld3 harg11 x7 inb_S1x512x1024_S1x512x1024_0_0_0 0 f d).trans (H7 f d))
  unfold runLive
  intro p hp
  simp only [List.mem_cons, List.not_mem_nil, or_false] at hp
  rcases hp with rfl | rfl | rfl | rfl | rfl | rfl | rfl | rfl
  · exact store_eq A t 7 _ fun r l => (pay1_apply _ r l).trans (key r _)
  · exact store_eq A t 6 _ fun r l => (pay20_apply _ _ _ _ _ _ _ _ r l).trans (key r _)
  · exact store_eq A t 5 _ fun r l => (pay19_apply _ _ _ _ _ _ _ _ r l).trans (key r _)
  · exact store_eq A t 4 _ fun r l => (pay18_apply _ _ _ _ _ _ _ _ r l).trans (key r _)
  · exact store_eq A t 3 _ fun r l => (pay17_apply _ _ _ _ _ _ _ _ r l).trans (key r _)
  · exact store_eq A t 2 _ fun r l => (pay16_apply _ _ _ _ _ _ _ _ r l).trans (key r _)
  · exact store_eq A t 1 _ fun r l => (pay15_apply _ _ _ _ _ _ _ _ r l).trans (key r _)
  · exact store_eq A t 0 _ fun r l => (pay14_apply _ _ _ _ _ _ _ _ r l).trans (key r _)

end Live

end Cert.MoeIdeal.Own

end
-- ==== Proof.Experts.Host.lean ====
/- What the host's preparation hands the expert layer's region: the router's tables and the weights. -/
module

public import proofs.«01_k».proof.Proof.Experts.Launch
public import proofs.«01_k».proof.Proof.Experts.Body
public import Idealize.ShloMosaic.Lib.StableHlo.ReadAt
public import Idealize.ShloMosaic.Lib.Pointwise

@[expose] public section

set_option maxRecDepth 16384

noncomputable section

namespace Cert.MoeIdeal.Own

open Cert.MoeIdeal Cert.MoeIdeal.Gen Cert.MoeIdeal.Body Cert.Experts Idealize.ShloMosaic Idealize.ShloMosaic.TcCoe Idealize.ShloMosaic.Pointwise

/-- The arguments are the buffers' contents at the launch. -/
abbrev Holds (A : Args) (m : (ℓ : Loc nD τ sig) → Buf (Elt Ideal) ℓ) (c : Dev nD) : Prop :=
  A.Held (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

variable (A : Args) (m : (ℓ : Loc nD τ sig) → Buf (Elt Ideal) ℓ) (c : Dev nD) (H : Holds A m c)

/-- The integer zero that the host pads with, as a float. -/
theorem sitofp_zero : (FloatOps.sitofp (F := Ideal) .f32 (0#32) : EReal) = 0 := by
  show (((0#32 : BitVec 32).toInt : ℝ) : EReal) = 0
  simp

include H

/-- The router's weights: the groups' rows, the experts' rows, then zeros. -/
theorem V_router (e : Fin 32) (d : Fin 1024) : (V m c main_v3 : FVec Ideal S32x1024 .bf16) (ix2 e d) = (A.w32 e d : EReal) := by
  have h5 := H.wrg
  have h7 := H.wre
  have q : (V m c main_v3 : FVec Ideal S32x1024 .bf16)
      = truncf .bf16 (pad S32x1024 ![0, 0] ![12, 0] ![0, 0] (transpose S20x1024 [1, 0]
          (concatenate S1024x20 1 [⟨S1024x4, (m ((c : Thread nD τ).loc main_arg5) : FVec Ideal S1024x4 .f32)⟩,
            ⟨S1024x16, (m ((c : Thread nD τ).loc main_arg7) : FVec Ideal S1024x16 .f32)⟩] concatenates_S1024x4_S1024x16_S1024x20_d1)
          transposes_S1024x20_S20x1024_1_0) (sitofp (F := Ideal) .f32 (constantI S_ 32 0#32)) pads_S20x1024_S32x1024_0120_000 h_S_) bitsLt_bf16_f32 := by
    unfold V
    after_results_simp
    all_goals rfl
  rw [q]
  revert h5 h7
  generalize (m ((c : Thread nD τ).loc main_arg5) : FVec Ideal S1024x4 .f32) = w5
  generalize (m ((c : Thread nD τ).loc main_arg7) : FVec Ideal S1024x16 .f32) = w7
  intro h5 h7
  pointwise
  unfold Args.w32
  split_ifs <;> first | (exfalso; omega) | exact sitofp_zero | simp_all

/-- The router's biases. -/
theorem V_bias (e : Fin 32) : (V m c main_v8 : FVec Ideal S32x1 .f32) (ix2 e 0) = (A.b32 e : EReal) := by
  have h6 := H.brg
  have h8 := H.bre
  have q : (V m c main_v8 : FVec Ideal S32x1 .f32)
      = broadcastInDim S32x1 ![0] bcast_S32_S32x1_0 (pad S32 ![0] ![12] ![0]
          (concatenate S20 0 [⟨S4, (m ((c : Thread nD τ).loc main_arg6) : FVec Ideal S4 .f32)⟩,
            ⟨S16, (m ((c : Thread nD τ).loc main_arg8) : FVec Ideal S16 .f32)⟩] concatenates_S4_S16_S20_d0)
          (sitofp (F := Ideal) .f32 (constantI S_ 32 0#32)) pads_S20_S32_0120 h_S_) := by
    unfold V
    after_results_simp
    all_goals rfl
  rw [q]
  revert h6 h8
  generalize (m ((c : Thread nD τ).loc main_arg6) : FVec Ideal S4 .f32) = w6
  generalize (m ((c : Thread nD τ).loc main_arg8) : FVec Ideal S16 .f32) = w8
  intro h6 h8
  pointwise
  unfold Args.b32
  split_ifs <;> first | (exfalso; omega) | exact sitofp_zero | simp_all

/-- The experts' two inner matrices, side by side. -/
theorem V_up (e : Fin 16) (d f : Fin 1024) : (V m c main_v7 : FVec Ideal S16x1024x1024 .bf16) (ix3 e d f)
    = if hf : f.val < 512 then A.wg e d ⟨f.val, hf⟩ else A.wu e d ⟨f.val - 512, by omega⟩ := by
  have h9 := H.wg
  have h10 := H.wu
  have q : (V m c main_v7 : FVec Ideal S16x1024x1024 .bf16)
      = truncf (F := Ideal) .bf16 (concatenate S16x1024x1024 2 [⟨S16x1024x512, (m ((c : Thread nD τ).loc main_arg9) : FVec Ideal S16x1024x512 .f32)⟩,
            ⟨S16x1024x512, (m ((c : Thread nD τ).loc main_arg10) : FVec Ideal S16x1024x512 .f32)⟩] concatenates_S16x1024x512_S16x1024x512_S16x1024x1024_d2) bitsLt_bf16_f32 := by
    unfold V
    after_reads_simp
    all_goals rfl
  rw [q]
  revert h9 h10
  generalize (m ((c : Thread nD τ).loc main_arg9) : FVec Ideal S16x1024x512 .f32) = w9
  generalize (m ((c : Thread nD τ).loc main_arg10) : FVec Ideal S16x1024x512 .f32) = w10
  intro h9 h10
  pointwise
  simp only [h9, h10]

/-- The experts' outer matrices. -/
theorem V_down (e : Fin 16) (f : Fin 512) (d : Fin 1024) : (V m c main_v9 : FVec Ideal S16x512x1024 .bf16) (ix3 e f d) = A.wd e f d := by
  refine Eq.trans ?_ (H.wd e f d)
  unfold V
  after_reads_at
  all_goals rfl

end Cert.MoeIdeal.Own

end
-- ==== Proof.Experts.Range.lean ====
/- What the ranges of the three tables give: the blocks that the tables name lie inside the weights' arrays, and at every grid
   point exactly one of the body's two branches is taken. -/
module

public import proofs.«01_k».proof.Proof.Experts.Launch
public import proofs.«01_k».proof.Proof.Gen.Pre_moe_range
public import proofs.«01_k».proof.Proof.Gen.Pre_moe_routed
public import Idealize.ShloMosaic.Lib.ReduceAll
public import Idealize.ShloMosaic.Lib.Affine

@[expose] public section

set_option maxRecDepth 16384

noncomputable section

namespace Cert.MoeIdeal.Own

open Cert.MoeIdeal.Gen
open Idealize.ShloMosaic Idealize.ShloMosaic.TcCoe

/-- The tables' ranges: every expert number is below 16, and every mark of a tile with rows is not negative. -/
structure InRange (lo hi valid : S152.Idx → BitVec 32) : Prop where
  lo : ∀ w, (lo w).toNat < 16
  hi : ∀ w, (hi w).toNat < 16
  valid : ∀ w, 0 ≤ (valid w).toInt

/-- A word between 0 and 16, read as a signed number, is below 16 read as a natural number. -/
theorem toNat_lt {v : BitVec 32} (h0 : IntOp.cmpi .sge v 0#32 = 1#1) (h1 : IntOp.cmpi .slt v 16#32 = 1#1) : v.toNat < 16 := by
  rw [IntOp.cmpi_sge] at h0
  rw [IntOp.cmpi_slt] at h1
  have e0 : (0#32 : BitVec 32).toInt = 0 := by decide
  have e1 : (16#32 : BitVec 32).toInt = 16 := by decide
  rw [e0] at h0
  rw [e1] at h1
  have := BitVec.toInt_eq_toNat_cond v
  have hlt := v.isLt
  split at this <;> omega

instance : Subsingleton Cert.Pre_moe_range.S_.Idx := ⟨fun a b => funext fun k => k.elim0⟩
instance : Subsingleton Cert.Pre_moe_routed.S_.Idx := ⟨fun a b => funext fun k => k.elim0⟩

section Pre

variable {F : FTy → Type} [FloatOps F]

/-- Under the range precondition the tables are in range. -/
theorem inRange_of_range {lo hi valid : IVec Cert.Pre_moe_range.S152 32} {a3 a4 a5 a6 a7 a8 a9 a10 a11}
    (h : Cert.Pre_moe_range.fn (F := F) lo hi valid a3 a4 a5 a6 a7 a8 a9 a10 a11 = fun _ => 1#1) : InRange lo hi valid := by
  have h0 := congrFun h (Shape.Idx.first Cert.Pre_moe_range.Gen.h_S_)
  dsimp only [Cert.Pre_moe_range.fn, Cert.Pre_moe_range.fn_part1] at h0
  obtain ⟨h1, hv⟩ := IntOp.andi_eq_one.1 h0
  obtain ⟨h2, hh1⟩ := IntOp.andi_eq_one.1 h1
  obtain ⟨h3, hh0⟩ := IntOp.andi_eq_one.1 h2
  obtain ⟨hl0, hl1⟩ := IntOp.andi_eq_one.1 h3
  refine ⟨fun w => toNat_lt (Host.reduce_andi_all _ _ _ _ _ hl0 w) (Host.reduce_andi_all _ _ _ _ _ hl1 w),
    fun w => toNat_lt (Host.reduce_andi_all _ _ _ _ _ hh0 w) (Host.reduce_andi_all _ _ _ _ _ hh1 w), fun w => ?_⟩
  exact (IntOp.cmpi_sge (y := 0#32)).1 (Host.reduce_andi_all _ _ _ _ _ hv w)

end Pre

section Tables

variable {F : FTy → Type} [FloatOps F]
variable (m : (ℓ : Loc nD τ sig) → Buf (Elt F) ℓ)

/-- A table is found by the region as launched. -/
theorem tbl_0 : tbl m 0 = m (((0 : Dev nD) : Thread nD τ).loc main_arg0) := V_unwritten m 0 main_arg0 (by decide)
theorem tbl_1 : tbl m 1 = m (((0 : Dev nD) : Thread nD τ).loc main_arg1) := V_unwritten m 0 main_arg1 (by decide)
theorem tbl_2 : tbl m 2 = m (((0 : Dev nD) : Thread nD τ).loc main_arg2) := V_unwritten m 0 main_arg2 (by decide)

/-- A block whose first coordinate is below 16 and whose others are 0 is inside the array of 16. -/
theorem inside {n p q : ℕ} (h : n < 16) : ∀ a : Fin 3, ((![n, 0, 0] : Fin 3 → ℕ) a + 1) * (⟨3, ![1, p, q]⟩ : Shape).size a ≤ (⟨3, ![16, p, q]⟩ : Shape).size a := by
  intro a
  fin_cases a
  · show (n + 1) * 1 ≤ 16
    omega
  · show (0 + 1) * p ≤ p
    omega
  · show (0 + 1) * q ≤ q
    omega

/-- Tables in range keep every window's block inside its array. -/
theorem ok_of_inRange (h : InRange (tbl m 0) (tbl m 1) (tbl m 2)) : Ok m :=
  ⟨fun i => ⟨inside (h.lo _), .inr (Affine.block_words_dvd (of_decide_eq_true rfl) (by decide))⟩,
   fun i => ⟨inside (h.lo _), .inr (Affine.block_words_dvd (of_decide_eq_true rfl) (by decide))⟩,
   fun i => ⟨inside (h.hi _), .inr (Affine.block_words_dvd (of_decide_eq_true rfl) (by decide))⟩,
   fun i => ⟨inside (h.hi _), .inr (Affine.block_words_dvd (of_decide_eq_true rfl) (by decide))⟩⟩

/-- The first branch is taken at a positive count. -/
theorem cond1_iff (v : BitVec 32) : k0_cond1 v = 1#1 ↔ 0 < v.toInt := by
  unfold k0_cond1
  dsimp only
  rw [← show Scalar.cmpi .sgt v 0#32 = 1#1 ↔ 0 < v.toInt from by
    rw [Scalar.cmpi, IntOp.cmpi_sgt, show (0#32 : BitVec 32).toInt = 0 from by decide]]
  generalize Scalar.cmpi .sgt v 0#32 = b
  revert b
  decide

/-- The second branch is taken at the count 0. -/
theorem cond2_iff (v : BitVec 32) : k0_cond2 v = 1#1 ↔ v.toInt = 0 := by
  unfold k0_cond2
  dsimp only
  rw [← show Scalar.cmpi .eq v 0#32 = 1#1 ↔ v.toInt = 0 from by
    rw [Scalar.cmpi, IntOp.cmpi_eq, ← BitVec.toInt_inj, show (0#32 : BitVec 32).toInt = 0 from by decide]]
  generalize Scalar.cmpi .eq v 0#32 = b
  revert b
  decide

/-- At a mark that is not negative exactly one branch is taken. -/
theorem one_branch (v : BitVec 32) (h : 0 ≤ v.toInt) :
    (k0_cond1 v = 1#1 ∧ ¬k0_cond2 v = 1#1) ∨ (¬k0_cond1 v = 1#1 ∧ k0_cond2 v = 1#1) := by
  rw [cond1_iff, cond2_iff]
  omega

end Tables

end Cert.MoeIdeal.Own

end
-- ==== Proof.Experts.Array.lean ====
/- The expert layer's whole result: the blocks of the grid's points put together. -/
module

public import proofs.«01_k».proof.Proof.Experts.Tile
public import proofs.«01_k».proof.Proof.Experts.Host
public import proofs.«01_k».proof.Proof.Experts.Range

@[expose] public section

set_option maxRecDepth 16384

noncomputable section

namespace Cert.MoeIdeal.Own

open Cert.MoeIdeal Cert.MoeIdeal.Gen Cert.MoeIdeal.Body Cert.Experts Idealize.ShloMosaic Idealize.ShloMosaic.TcCoe Idealize.ShloMosaic.Pointwise Idealize.SL.Sem
open Idealize.ShloMosaic.Pipeline (Dat Cfg Window)

/-! ## The grid's points and the tables' words there -/

theorem off1_val : ∀ t : Fin grid0.N, k0_off1 (grid0.coords t) 0 = t.val := by decide +kernel
theorem off2_val : ∀ t : Fin grid0.N, k0_off2 (grid0.coords t) 0 = t.val := by decide +kernel
theorem idx0 : ∀ t : Fin grid0.N, cc0_transform_0 (grid0.coords t) 0 = t.val ∧ cc0_transform_0 (grid0.coords t) 1 = 0 := by decide +kernel
theorem idx8 : ∀ t : Fin grid0.N, cc0_transform_8 (grid0.coords t) 0 = t.val ∧ cc0_transform_8 (grid0.coords t) 1 = 0 := by decide +kernel

/-- A table's entry at an index is named by the index's number. -/
theorem entry_eq (X : S152.Idx → BitVec 32) (t : Fin 152) (y : S152.Idx) (h : (y 0).val = t.val) : X y = X (ix1 t) :=
  congrArg X (funext fun a => by match a with | ⟨0, _⟩ => exact Fin.ext h)

variable (A : Args) (m : (ℓ : Loc nD τ sig) → Buf (Elt Ideal) ℓ) (hO : Ok m) (c : Dev nD)

/-- The tile of a grid point. -/
abbrev tile (t : Fin (cfgM m hO).N) : Fin 152 := ⟨t.val, t.isLt⟩

theorem word_eq (t : Fin (cfgM m hO).N) (X : S152.Idx → BitVec 32) : word (F := Ideal) c (grid0.coords t) X = X (ix1 (tile m hO t)) :=
  entry_eq X _ _ (by show k0_off1 (grid0.coords t) 0 + 1 * 0 = t.val; rw [off1_val]; omega)

theorem lo_eq (t : Fin (cfgM m hO).N) (X : S152.Idx → BitVec 32) : runLive.sl.r_1 (F := Ideal) c (grid0.coords t) X = X (ix1 (tile m hO t)) := by
  unfold runLive.sl.r_1
  exact entry_eq X _ _ (by show k0_off2 (grid0.coords t) 0 + 1 * 0 = t.val; rw [off2_val]; omega)

theorem hi_eq (t : Fin (cfgM m hO).N) (X : S152.Idx → BitVec 32) : runLive.sl.r_5 (F := Ideal) c (grid0.coords t) X = X (ix1 (tile m hO t)) := by
  unfold runLive.sl.r_5
  exact entry_eq X _ _ (by show k0_off2 (grid0.coords t) 0 + 1 * 0 = t.val; rw [off2_val]; omega)

theorem index4 (t : Fin (cfgM m hO).N) : ((cfgM m hO).win 4).index t (0 : Fin 3) = (tbl m 0 (ix1 (tile m hO t)) : BitVec 32).toNat :=
  congrArg BitVec.toNat (entry_eq (tbl m 0) (tile m hO t) _ (by show k0_off1 (grid0.coords t) 0 + 1 * 0 = t.val; rw [off1_val]; omega))
theorem index5 (t : Fin (cfgM m hO).N) : ((cfgM m hO).win 5).index t (0 : Fin 3) = (tbl m 0 (ix1 (tile m hO t)) : BitVec 32).toNat :=
  congrArg BitVec.toNat (entry_eq (tbl m 0) (tile m hO t) _ (by show k0_off1 (grid0.coords t) 0 + 1 * 0 = t.val; rw [off1_val]; omega))
theorem index6 (t : Fin (cfgM m hO).N) : ((cfgM m hO).win 6).index t (0 : Fin 3) = (tbl m 1 (ix1 (tile m hO t)) : BitVec 32).toNat :=
  congrArg BitVec.toNat (entry_eq (tbl m 1) (tile m hO t) _ (by show k0_off1 (grid0.coords t) 0 + 1 * 0 = t.val; rw [off1_val]; omega))
theorem index7 (t : Fin (cfgM m hO).N) : ((cfgM m hO).win 7).index t (0 : Fin 3) = (tbl m 1 (ix1 (tile m hO t)) : BitVec 32).toNat :=
  congrArg BitVec.toNat (entry_eq (tbl m 1) (tile m hO t) _ (by show k0_off1 (grid0.coords t) 0 + 1 * 0 = t.val; rw [off1_val]; omega))

/-! The place in its array of an entry of a window's block. -/

abbrev rect0 (t : Fin (cfgM m hO).N) : Rect S311296x128 := ((cfgM m hO).win 0).rect t
theorem emb0 (t : Fin (cfgM m hO).N) (y : S2048x128.Idx) (a : Fin 2) : ((rect0 m hO t).emb y a : Nat) = ((cfgM m hO).win 0).index t a * (![2048, 128] : Fin 2 → Nat) a + (y a).val :=
  ((cfgM m hO).win 0).rect_emb_val t y a
abbrev rect1 (t : Fin (cfgM m hO).N) : Rect S1x1024 := ((cfgM m hO).win 1).rect t
theorem emb1 (t : Fin (cfgM m hO).N) (y : S1x1024.Idx) (a : Fin 2) : ((rect1 m hO t).emb y a : Nat) = ((cfgM m hO).win 1).index t a * (![1, 1024] : Fin 2 → Nat) a + (y a).val :=
  ((cfgM m hO).win 1).rect_emb_val t y a
theorem zero1 (t : Fin (cfgM m hO).N) : ((cfgM m hO).win 1).index t (0 : Fin 2) = 0 ∧ ((cfgM m hO).win 1).index t (1 : Fin 2) = 0 := ⟨rfl, rfl⟩
abbrev rect2 (t : Fin (cfgM m hO).N) : Rect S32x1024 := ((cfgM m hO).win 2).rect t
theorem emb2 (t : Fin (cfgM m hO).N) (y : S32x1024.Idx) (a : Fin 2) : ((rect2 m hO t).emb y a : Nat) = ((cfgM m hO).win 2).index t a * (![32, 1024] : Fin 2 → Nat) a + (y a).val :=
  ((cfgM m hO).win 2).rect_emb_val t y a
theorem zero2 (t : Fin (cfgM m hO).N) : ((cfgM m hO).win 2).index t (0 : Fin 2) = 0 ∧ ((cfgM m hO).win 2).index t (1 : Fin 2) = 0 := ⟨rfl, rfl⟩
abbrev rect3 (t : Fin (cfgM m hO).N) : Rect S32x1 := ((cfgM m hO).win 3).rect t
theorem emb3 (t : Fin (cfgM m hO).N) (y : S32x1.Idx) (a : Fin 2) : ((rect3 m hO t).emb y a : Nat) = ((cfgM m hO).win 3).index t a * (![32, 1] : Fin 2 → Nat) a + (y a).val :=
  ((cfgM m hO).win 3).rect_emb_val t y a
theorem zero3 (t : Fin (cfgM m hO).N) : ((cfgM m hO).win 3).index t (0 : Fin 2) = 0 ∧ ((cfgM m hO).win 3).index t (1 : Fin 2) = 0 := ⟨rfl, rfl⟩
abbrev rect4 (t : Fin (cfgM m hO).N) : Rect S16x1024x1024 := ((cfgM m hO).win 4).rect t
theorem emb4 (t : Fin (cfgM m hO).N) (y : S1x1024x1024.Idx) (a : Fin 3) : ((rect4 m hO t).emb y a : Nat) = ((cfgM m hO).win 4).index t a * (![1, 1024, 1024] : Fin 3 → Nat) a + (y a).val :=
  ((cfgM m hO).win 4).rect_emb_val t y a
theorem zero4 (t : Fin (cfgM m hO).N) : ((cfgM m hO).win 4).index t (1 : Fin 3) = 0 ∧ ((cfgM m hO).win 4).index t (2 : Fin 3) = 0 := ⟨rfl, rfl⟩
abbrev rect5 (t : Fin (cfgM m hO).N) : Rect S16x512x1024 := ((cfgM m hO).win 5).rect t
theorem emb5 (t : Fin (cfgM m hO).N) (y : S1x512x1024.Idx) (a : Fin 3) : ((rect5 m hO t).emb y a : Nat) = ((cfgM m hO).win 5).index t a * (![1, 512, 1024] : Fin 3 → Nat) a + (y a).val :=
  ((cfgM m hO).win 5).rect_emb_val t y a
theorem zero5 (t : Fin (cfgM m hO).N) : ((cfgM m hO).win 5).index t (1 : Fin 3) = 0 ∧ ((cfgM m hO).win 5).index t (2 : Fin 3) = 0 := ⟨rfl, rfl⟩
abbrev rect6 (t : Fin (cfgM m hO).N) : Rect S16x1024x1024 := ((cfgM m hO).win 6).rect t
theorem emb6 (t : Fin (cfgM m hO).N) (y : S1x1024x1024.Idx) (a : Fin 3) : ((rect6 m hO t).emb y a : Nat) = ((cfgM m hO).win 6).index t a * (![1, 1024, 1024] : Fin 3 → Nat) a + (y a).val :=
  ((cfgM m hO).win 6).rect_emb_val t y a
theorem zero6 (t : Fin (cfgM m hO).N) : ((cfgM m hO).win 6).index t (1 : Fin 3) = 0 ∧ ((cfgM m hO).win 6).index t (2 : Fin 3) = 0 := ⟨rfl, rfl⟩
abbrev rect7 (t : Fin (cfgM m hO).N) : Rect S16x512x1024 := ((cfgM m hO).win 7).rect t
theorem emb7 (t : Fin (cfgM m hO).N) (y : S1x512x1024.Idx) (a : Fin 3) : ((rect7 m hO t).emb y a : Nat) = ((cfgM m hO).win 7).index t a * (![1, 512, 1024] : Fin 3 → Nat) a + (y a).val :=
  ((cfgM m hO).win 7).rect_emb_val t y a
theorem zero7 (t : Fin (cfgM m hO).N) : ((cfgM m hO).win 7).index t (1 : Fin 3) = 0 ∧ ((cfgM m hO).win 7).index t (2 : Fin 3) = 0 := ⟨rfl, rfl⟩
abbrev rect8 (t : Fin (cfgM m hO).N) : Rect S311296x128 := ((cfgM m hO).win 8).rect t
theorem emb8 (t : Fin (cfgM m hO).N) (y : S2048x128.Idx) (a : Fin 2) : ((rect8 m hO t).emb y a : Nat) = ((cfgM m hO).win 8).index t a * (![2048, 128] : Fin 2 → Nat) a + (y a).val :=
  ((cfgM m hO).win 8).rect_emb_val t y a

variable (H : Holds A m c)

theorem toNat_word (e : Fin 16) : (BitVec.ofNat 32 e.val).toNat = e.val := by
  rw [BitVec.toNat_ofNat]
  exact Nat.mod_eq_of_lt (by omega)

include H in
theorem tbl0_at (t : Fin 152) : (tbl m 0 (ix1 t) : BitVec 32) = BitVec.ofNat 32 (A.lo t).val := by
  obtain rfl : c = 0 := Subsingleton.elim _ _
  rw [tbl_0]
  exact H.lo t
include H in
theorem tbl1_at (t : Fin 152) : (tbl m 1 (ix1 t) : BitVec 32) = BitVec.ofNat 32 (A.hi t).val := by
  obtain rfl : c = 0 := Subsingleton.elim _ _
  rw [tbl_1]
  exact H.hi t
include H in
theorem tbl2_at (t : Fin 152) : (tbl m 2 (ix1 t) : BitVec 32) = A.valid t := by
  obtain rfl : c = 0 := Subsingleton.elim _ _
  rw [tbl_2]
  exact H.valid t

/-! ## The windows' blocks -/

include H in
theorem blk0 (t : Fin (cfgM m hO).N) (a : Fin 2048) (l : Fin 128) : (iblk m hO c 0 t : Vec Ideal S2048x128 .f32) (ix2 a l)
    = (A.xs ⟨(tile m hO t).val * 2048 + a.val, row_lt _ a⟩ l : EReal) := by
  refine Eq.trans ?_ ((congrFun (V_unwritten m c main_arg3 (by decide)) (ix2 _ l)).trans (H.xs _ l))
  refine congrArg (V m c main_arg3) (funext fun k => Fin.ext ?_)
  obtain ⟨h0, h1⟩ := idx0 t
  match k with
  | ⟨0, _⟩ => refine (emb0 m hO t (ix2 a l) 0).trans ?_; show cc0_transform_0 (grid0.coords t) 0 * 2048 + a.val = t.val * 2048 + a.val; rw [h0]
  | ⟨1, _⟩ => refine (emb0 m hO t (ix2 a l) 1).trans ?_; show cc0_transform_0 (grid0.coords t) 1 * 128 + l.val = l.val; rw [h1]; omega

include H in
theorem blk1 (t : Fin (cfgM m hO).N) (d : Fin 1024) : (iblk m hO c 1 t : Vec Ideal S1x1024 .f32) (ix2 0 d) = (A.g d : EReal) := by
  refine Eq.trans ?_ ((congrFun (V_unwritten m c main_arg4 (by decide)) (ix2 0 d)).trans (H.g d))
  refine congrArg (V m c main_arg4) (funext fun k => Fin.ext ?_)
  obtain ⟨z0, z1⟩ := zero1 m hO t
  match k with
  | ⟨0, _⟩ => refine (emb1 m hO t (ix2 0 d) 0).trans ?_; rw [z0]; rfl
  | ⟨1, _⟩ => refine (emb1 m hO t (ix2 0 d) 1).trans ?_; rw [z1]; show 0 * 1024 + d.val = d.val; omega

include H in
theorem blk2 (t : Fin (cfgM m hO).N) (e : Fin 32) (d : Fin 1024) : (iblk m hO c 2 t : Vec Ideal S32x1024 .bf16) (ix2 e d) = (A.w32 e d : EReal) := by
  refine Eq.trans ?_ (V_router A m c H e d)
  refine congrArg (V m c main_v3) (funext fun k => Fin.ext ?_)
  obtain ⟨z0, z1⟩ := zero2 m hO t
  match k with
  | ⟨0, _⟩ => refine (emb2 m hO t (ix2 e d) 0).trans ?_; rw [z0]; show 0 * 32 + e.val = e.val; omega
  | ⟨1, _⟩ => refine (emb2 m hO t (ix2 e d) 1).trans ?_; rw [z1]; show 0 * 1024 + d.val = d.val; omega

include H in
theorem blk3 (t : Fin (cfgM m hO).N) (e : Fin 32) : (iblk m hO c 3 t : Vec Ideal S32x1 .f32) (ix2 e 0) = (A.b32 e : EReal) := by
  refine Eq.trans ?_ (V_bias A m c H e)
  refine congrArg (V m c main_v8) (funext fun k => Fin.ext ?_)
  obtain ⟨z0, z1⟩ := zero3 m hO t
  match k with
  | ⟨0, _⟩ => refine (emb3 m hO t (ix2 e 0) 0).trans ?_; rw [z0]; show 0 * 32 + e.val = e.val; omega
  | ⟨1, _⟩ => refine (emb3 m hO t (ix2 e 0) 1).trans ?_; rw [z1]; rfl

include H in
theorem blk4 (t : Fin (cfgM m hO).N) (d f : Fin 1024) : (iblk m hO c 4 t : Vec Ideal S1x1024x1024 .bf16) (ix3 0 d f)
    = if hf : f.val < 512 then A.wg (A.lo (tile m hO t)) d ⟨f.val, hf⟩ else A.wu (A.lo (tile m hO t)) d ⟨f.val - 512, half_lt f⟩ := by
  refine Eq.trans ?_ (V_up A m c H _ d f)
  refine congrArg (V m c main_v7) (funext fun k => Fin.ext ?_)
  obtain ⟨z1, z2⟩ := zero4 m hO t
  match k with
  | ⟨0, _⟩ =>
    refine (emb4 m hO t (ix3 0 d f) 0).trans ?_
    rw [index4, tbl0_at A m c H, toNat_word]
    show (A.lo (tile m hO t)).val * 1 + 0 = (A.lo (tile m hO t)).val
    omega
  | ⟨1, _⟩ => refine (emb4 m hO t (ix3 0 d f) 1).trans ?_; rw [z1]; show 0 * 1024 + d.val = d.val; omega
  | ⟨2, _⟩ => refine (emb4 m hO t (ix3 0 d f) 2).trans ?_; rw [z2]; show 0 * 1024 + f.val = f.val; omega

include H in
theorem blk5 (t : Fin (cfgM m hO).N) (f : Fin 512) (d : Fin 1024) : (iblk m hO c 5 t : Vec Ideal S1x512x1024 .bf16) (ix3 0 f d) = A.wd (A.lo (tile m hO t)) f d := by
  refine Eq.trans ?_ (V_down A m c H _ f d)
  refine congrArg (V m c main_v9) (funext fun k => Fin.ext ?_)
  obtain ⟨z1, z2⟩ := zero5 m hO t
  match k with
  | ⟨0, _⟩ =>
    refine (emb5 m hO t (ix3 0 f d) 0).trans ?_
    rw [index5, tbl0_at A m c H, toNat_word]
    show (A.lo (tile m hO t)).val * 1 + 0 = (A.lo (tile m hO t)).val
    omega
  | ⟨1, _⟩ => refine (emb5 m hO t (ix3 0 f d) 1).trans ?_; rw [z1]; show 0 * 512 + f.val = f.val; omega
  | ⟨2, _⟩ => refine (emb5 m hO t (ix3 0 f d) 2).trans ?_; rw [z2]; show 0 * 1024 + d.val = d.val; omega

include H in
theorem blk6 (t : Fin (cfgM m hO).N) (d f : Fin 1024) : (iblk m hO c 6 t : Vec Ideal S1x1024x1024 .bf16) (ix3 0 d f)
    = if hf : f.val < 512 then A.wg (A.hi (tile m hO t)) d ⟨f.val, hf⟩ else A.wu (A.hi (tile m hO t)) d ⟨f.val - 512, half_lt f⟩ := by
  refine Eq.trans ?_ (V_up A m c H _ d f)
  refine congrArg (V m c main_v7) (funext fun k => Fin.ext ?_)
  obtain ⟨z1, z2⟩ := zero6 m hO t
  match k with
  | ⟨0, _⟩ =>
    refine (emb6 m hO t (ix3 0 d f) 0).trans ?_
    rw [index6, tbl1_at A m c H, toNat_word]
    show (A.hi (tile m hO t)).val * 1 + 0 = (A.hi (tile m hO t)).val
    omega
  | ⟨1, _⟩ => refine (emb6 m hO t (ix3 0 d f) 1).trans ?_; rw [z1]; show 0 * 1024 + d.val = d.val; omega
  | ⟨2, _⟩ => refine (emb6 m hO t (ix3 0 d f) 2).trans ?_; rw [z2]; show 0 * 1024 + f.val = f.val; omega

include H in
theorem blk7 (t : Fin (cfgM m hO).N) (f : Fin 512) (d : Fin 1024) : (iblk m hO c 7 t : Vec Ideal S1x512x1024 .bf16) (ix3 0 f d) = A.wd (A.hi (tile m hO t)) f d := by
  refine Eq.trans ?_ (V_down A m c H _ f d)
  refine congrArg (V m c main_v9) (funext fun k => Fin.ext ?_)
  obtain ⟨z1, z2⟩ := zero7 m hO t
  match k with
  | ⟨0, _⟩ =>
    refine (emb7 m hO t (ix3 0 f d) 0).trans ?_
    rw [index7, tbl1_at A m c H, toNat_word]
    show (A.hi (tile m hO t)).val * 1 + 0 = (A.hi (tile m hO t)).val
    omega
  | ⟨1, _⟩ => refine (emb7 m hO t (ix3 0 f d) 1).trans ?_; rw [z1]; show 0 * 512 + f.val = f.val; omega
  | ⟨2, _⟩ => refine (emb7 m hO t (ix3 0 f d) 2).trans ?_; rw [z2]; show 0 * 1024 + d.val = d.val; omega

/-! ## What each point leaves, and the whole array -/

/-- The block of zeros. -/
theorem zeros_eq (y : S2048x128.Idx) : (k0_pay2 (F := Ideal)) y = (0 : EReal) := by
  unfold k0_pay2
  exact Consts.ofBits_zero

/-- The block of a point: the tile's rows if it has any, and zeros. -/
def outBlk (t : Fin 152) : S2048x128.Idx → EReal := fun y => if 0 < (A.valid t).toInt then tileArr A t y else 0

include H in
theorem pieces_eq (hR : Ranged m) (t : Fin (cfgM m hO).N) : ∀ p ∈ piecesAt m hO c t, ∀ x, p.2 x = outBlk A (tile m hO t) (p.1.emb x) := by
  have hw : word (F := Ideal) c (grid0.coords t) (tbl m 2) = A.valid (tile m hO t) := (word_eq m hO c t (tbl m 2)).trans (tbl2_at A m c H _)
  unfold piecesAt outBlk
  split
  · rename_i h
    have hv : 0 < (A.valid (tile m hO t)).toInt := by
      rw [← hw]
      exact (cond1_iff _).1 h.1
    simp only [hv, if_true]
    exact live_eq A (tile m hO t) c (grid0.coords t) (ms0_0 m hO t) (hs0_0 m hO t) (ms0_1 m hO t) (hs0_1 m hO t) (ms0_2 m hO t) (hs0_2 m hO t) (ms0_3 m hO t) (hs0_3 m hO t)
      (ms0_4 m hO t) (hs0_4 m hO t) (ms0_5 m hO t) (hs0_5 m hO t) (ms0_6 m hO t) (hs0_6 m hO t) (ms0_7 m hO t) (hs0_7 m hO t) (ms0_8 m hO t) (hs0_8 m hO t)
      (iblk m hO c 0 t) (iblk m hO c 1 t) (iblk m hO c 2 t) (iblk m hO c 3 t) (iblk m hO c 4 t) (iblk m hO c 5 t) (iblk m hO c 6 t) (iblk m hO c 7 t) (tbl m 0) (tbl m 1) (tbl m 2)
      (blk0 A m hO c H t) (blk1 A m hO c H t) (blk2 A m hO c H t) (blk3 A m hO c H t) (blk4 A m hO c H t) (blk5 A m hO c H t) (blk6 A m hO c H t) (blk7 A m hO c H t)
      ((lo_eq m hO c t (tbl m 0)).trans (tbl0_at A m c H _)) ((hi_eq m hO c t (tbl m 1)).trans (tbl1_at A m c H _)) h.1 h.2
  · rename_i h
    have hv : ¬ 0 < (A.valid (tile m hO t)).toInt := by
      rw [← hw, ← cond1_iff]
      intro h1
      rcases hR c (grid0.coords t) with h2 | h2
      · exact h h2
      · exact h2.1 h1
    simp only [hv, if_false]
    intro p hp x
    rw [List.mem_singleton] at hp
    subst hp
    exact zeros_eq x

include H in
theorem outs_eq (hR : Ranged m) (t : Fin (cfgM m hO).N) (y : S2048x128.Idx) : outsAt0 m hO c t y = outBlk A (tile m hO t) y := by
  unfold outsAt0
  exact View.read_writes_apply_of_pieces VO0_8 VO0_8.junk (outBlk A (tile m hO t)) (piecesAt m hO c t) (pieces_eq A m hO c H hR t) y (piecesAt_cover m hO c t y)

include H in
theorem flushed_eq (hR : Ranged m) (t : Fin (cfgM m hO).N) :
    (dats m hO 0 c).flushed 8 t = (((cfgM m hO).win 8).blk t).view.read (Elt Ideal) A.arr := by
  have e : (dats m hO 0 c).flushed 8 t = ((cfgM m hO).win 8).cut (grid0.coords t) (outsAt0 m hO c t) := by
    show ((cfgM m hO).win 8).cut (grid0.coords t) ((dats m hO 0 c).after 8 t) = _
    rw [after0_8]
  rw [e]
  obtain ⟨h0, h1⟩ := idx8 t
  refine funext fun (y : S2048x128.Idx) => ?_
  refine (outs_eq A m hO c H hR t y).trans ?_
  have y0 : (y 0).val < 2048 := (y 0).isLt
  have y1 : (y 1).val < 128 := (y 1).isLt
  have g0 : ((rect8 m hO t).emb y 0 : Nat) = t.val * 2048 + (y 0).val := by
    refine (emb8 m hO t y 0).trans ?_
    show cc0_transform_8 (grid0.coords t) 0 * 2048 + (y 0).val = _
    rw [h0]
  have g1 : ((rect8 m hO t).emb y 1 : Nat) = (y 1).val := by
    refine (emb8 m hO t y 1).trans ?_
    show cc0_transform_8 (grid0.coords t) 1 * 128 + (y 1).val = _
    rw [h1]
    omega
  show outBlk A (tile m hO t) y = A.arr ((rect8 m hO t).emb y)
  have q : A.arr ((rect8 m hO t).emb y) = A.out (tile m hO t) ⟨(y 0).val / 8, by omega⟩ ⟨(y 0).val % 8 * 128 + (y 1).val, by omega⟩ := by
    unfold Args.arr
    congr 1
    · exact Fin.ext (by show ((rect8 m hO t).emb y 0 : Nat) / 2048 = t.val; rw [g0]; omega)
    · exact Fin.ext (by show ((rect8 m hO t).emb y 0 : Nat) / 8 % 256 = (y 0).val / 8; rw [g0]; omega)
    · exact Fin.ext (by
        show ((rect8 m hO t).emb y 0 : Nat) % 8 * 128 + ((rect8 m hO t).emb y 1 : Nat) = (y 0).val % 8 * 128 + (y 1).val
        rw [g0, g1]; omega)
  rw [q]
  rfl

theorem mem_blk (t : Fin (cfgM m hO).N) (i : S311296x128.Idx) :
    i ∈ (((cfgM m hO).win 8).blk t).view.set ↔ ∀ a, ((cfgM m hO).win 8).index t a * ((cfgM m hO).win 8).size a ≤ (i a).val
      ∧ (i a).val < ((cfgM m hO).win 8).index t a * ((cfgM m hO).win 8).size a + ((cfgM m hO).win 8).xsize (grid0.coords t) a := by
  show i ∈ ((View.whole main_v10).slice (rect8 m hO t)).set ↔ _
  rw [View.set_slice_whole]
  exact Rect.mem_set_unit

theorem cover (i : S311296x128.Idx) : ∃ t : Fin (cfgM m hO).N, ((cfgM m hO).win 8).flush t = true ∧ i ∈ (((cfgM m hO).win 8).blk t).view.set := by
  have i0 : (i 0).val < 311296 := (i 0).isLt
  have i1 : (i 1).val < 128 := (i 1).isLt
  have hN : (i 0).val / 2048 < 152 := by omega
  let t : Fin (cfgM m hO).N := ⟨(i 0).val / 2048, hN⟩
  refine ⟨t, flush0_8 _ t, ?_⟩
  rw [mem_blk]
  obtain ⟨h0, h1⟩ := idx8 t
  have tv : t.val = (i 0).val / 2048 := rfl
  rw [tv] at h0
  intro a
  match a with
  | ⟨0, _⟩ =>
    show cc0_transform_8 (grid0.coords t) 0 * 2048 ≤ (i 0).val ∧ (i 0).val < cc0_transform_8 (grid0.coords t) 0 * 2048 + 2048
    rw [h0]; omega
  | ⟨1, _⟩ =>
    show cc0_transform_8 (grid0.coords t) 1 * 128 ≤ (i 1).val ∧ (i 1).val < cc0_transform_8 (grid0.coords t) 1 * 128 + 128
    rw [h1]; omega

include H in
/-- After the run the result array is the expert layer's. -/
theorem final_eq (hR : Ranged m) : (dats m hO 0 c).arrAt 8 (cfgM m hO).N = A.arr :=
  (dats m hO 0 c).arrAt_eq_of_cover 8 A.arr (fun t _ => flushed_eq A m hO c H hR t) (cover m hO)

end Cert.MoeIdeal.Own

end
-- ==== Proof.Experts.Text.lean ====
/- The expert layer's printed program and its idealization are the same text, so they are the same program at every reading of
   the floats. -/
module

public import proofs.«01_k».proof.Proof.Gen.Moe
public import proofs.«01_k».proof.Proof.Gen.MoeIdeal

@[expose] public section

set_option maxRecDepth 16384

noncomputable section

namespace Cert.MoeIdeal.Own

open Idealize.ShloMosaic Idealize.ShloMosaic.TcCoe

variable {F : FTy → Type} [FloatOps F]

/-- The two kernels' body tables are equal. -/
theorem bodies_eq : @Cert.Moe.defs₀ F _ _ = @Cert.MoeIdeal.defs₀ F _ _ := by
  unfold Cert.Moe.defs₀ Cert.MoeIdeal.defs₀
  refine congrArg Defs.onTc ?_
  funext l x
  match l, x with
  | 0, (t, s) => rfl

/-- The two programs' tables of bodies, the pipelines' included, are equal. -/
theorem defs_eq : @Cert.Moe.defs F _ _ = @Cert.MoeIdeal.defs F _ _ :=
  congrArg (Pipeline.defs Cert.MoeIdeal.pcfgs) bodies_eq

set_option maxHeartbeats 4000000 in
/-- The two programs are equal. -/
theorem main_eq : @Cert.Moe.main F _ _ = @Cert.MoeIdeal.main F _ _ := by
  funext c
  unfold Cert.Moe.main Cert.MoeIdeal.main
  rfl

end Cert.MoeIdeal.Own

end
-- ==== Proof.Experts.Frames.lean ====
/- The frame claims of the expert layer's call: of the printed program, of its idealization, under the preconditions. -/
module

public import proofs.«01_k».proof.Proof.Experts.Range
public import proofs.«01_k».proof.Proof.Experts.Frame
public import proofs.«01_k».proof.Proof.Experts.Text
public import proofs.«01_k».proof.Defs

@[expose] public section

set_option maxRecDepth 16384

noncomputable section

namespace Cert.MoeIdeal.Own

open Cert.MoeIdeal.Gen
open Idealize.ShloMosaic Idealize.ShloMosaic.TcCoe Idealize.SL.Sem

variable {F : FTy → Type} [FloatOps F]

/-- Tables in range let the body take exactly one branch at every grid point. -/
theorem ranged_of_inRange (m : (ℓ : Loc nD τ sig) → Buf (Elt F) ℓ) (h : InRange (tbl m 0) (tbl m 1) (tbl m 2)) : Ranged m :=
  fun _ _ => one_branch _ (h.valid _)

/-- The tables as the region finds them are in range when the launched ones are. -/
theorem inRange_tbl (m : (ℓ : Loc nD τ sig) → Buf (Elt F) ℓ)
    (h : InRange (m (((0 : Dev nD) : Thread nD τ).loc main_arg0)) (m (((0 : Dev nD) : Thread nD τ).loc main_arg1)) (m (((0 : Dev nD) : Thread nD τ).loc main_arg2))) :
    InRange (tbl m 0) (tbl m 1) (tbl m 2) := by
  rw [tbl_0, tbl_1, tbl_2]
  exact h

set_option maxHeartbeats 4000000 in
/-- The idealized program's frame, under the range of the tables. -/
theorem frame_ideal : Cert.quiescent_MoeIdeal := fun m ρ h =>
  have hr := inRange_tbl m (inRange_of_range (h 0))
  frame m ρ (ok_of_inRange m hr) (ranged_of_inRange m hr)

set_option maxHeartbeats 4000000 in
/-- The printed program's frame, under the range of the tables: its text is the idealized program's. -/
theorem frame_printed : Cert.quiescent_Moe := by
  intro m ρ h
  have hr := inRange_tbl (F := Bits) m (inRange_of_range (h 0))
  have e := frame (F := Bits) m ρ (ok_of_inRange m hr) (ranged_of_inRange m hr)
  rw [← defs_eq, ← main_eq] at e
  exact e

end Cert.MoeIdeal.Own

end
-- ==== Proof.Experts.Routed.lean ====
/- What the routed precondition gives: the tables and the real numbers that the expert layer works with. -/
module

public import proofs.«01_k».proof.Proof.Experts.Range
public import proofs.«01_k».proof.Proof.Experts.Args
public import proofs.«01_k».proof.Proof.Finite

@[expose] public section

set_option maxRecDepth 16384

noncomputable section

namespace Cert.Experts

open Idealize.ShloMosaic Idealize.ShloMosaic.TcCoe Idealize.ShloMosaic.Pointwise Cert.Pre_moe_routed Cert.Pre_moe_routed.Gen
open Cert.Pre_attn_finite.Finite (real_of_lt)
open Cert.MoeIdeal.Own (InRange toNat_lt)

/-- Two experts whose numbers divided by four are equal are of one group. -/
theorem grp_of_div : ∀ a b : Fin 16, IntOp.cmpi .eq (IntOp.divsi .host (BitVec.ofNat 32 a.val) 4#32) (IntOp.divsi .host (BitVec.ofNat 32 b.val) 4#32) = 1#1 → grp b = grp a := by
  decide

theorem exists_args {lo hi valid : IVec S152 32} {xs : FVec Ideal S311296x128 .f32} {g : FVec Ideal S1x1024 .f32} {wrg : FVec Ideal S1024x4 .f32} {brg : FVec Ideal S4 .f32}
    {wre : FVec Ideal S1024x16 .f32} {bre : FVec Ideal S16 .f32} {wg wu : FVec Ideal S16x1024x512 .f32} {wd : FVec Ideal S16x512x1024 .f32}
    (h : fn (F := Ideal) lo hi valid xs g wrg brg wre bre wg wu wd = fun _ => 1#1) :
    InRange lo hi valid ∧ ∃ A : Args, A.Held lo hi valid xs g wrg brg wre bre wg wu wd := by
  have h0 := congrFun h (Shape.Idx.first h_S_)
  dsimp only [fn, fn_part1, fn_part2, fn_part3] at h0
  obtain ⟨hr, hf⟩ := IntOp.andi_eq_one.1 h0
  obtain ⟨hr, hv⟩ := IntOp.andi_eq_one.1 hr
  obtain ⟨hr, hs⟩ := IntOp.andi_eq_one.1 hr
  obtain ⟨hr, hh1⟩ := IntOp.andi_eq_one.1 hr
  obtain ⟨hr, hh0⟩ := IntOp.andi_eq_one.1 hr
  obtain ⟨hl0, hl1⟩ := IntOp.andi_eq_one.1 hr
  obtain ⟨hf, f8⟩ := IntOp.andi_eq_one.1 hf
  obtain ⟨hf, f7⟩ := IntOp.andi_eq_one.1 hf
  obtain ⟨hf, f6⟩ := IntOp.andi_eq_one.1 hf
  obtain ⟨hf, f5⟩ := IntOp.andi_eq_one.1 hf
  obtain ⟨f3, f4⟩ := IntOp.andi_eq_one.1 hf
  have nlo : ∀ w, (lo w).toNat < 16 := fun w => toNat_lt (Host.reduce_andi_all _ _ _ _ _ hl0 w) (Host.reduce_andi_all _ _ _ _ _ hl1 w)
  have nhi : ∀ w, (hi w).toNat < 16 := fun w => toNat_lt (Host.reduce_andi_all _ _ _ _ _ hh0 w) (Host.reduce_andi_all _ _ _ _ _ hh1 w)
  have elo : ∀ w, lo w = BitVec.ofNat 32 (lo w).toNat := fun w => by simp
  have ehi : ∀ w, hi w = BitVec.ofNat 32 (hi w).toNat := fun w => by simp
  refine ⟨⟨nlo, nhi, fun w => (IntOp.cmpi_sge (y := 0#32)).1 (Host.reduce_andi_all _ _ _ _ _ hv w)⟩, ?_⟩
  have same : ∀ t : Fin 152, grp ⟨(hi (ix1 t)).toNat, nhi _⟩ = grp ⟨(lo (ix1 t)).toNat, nlo _⟩ := fun t => by
    have q : IntOp.cmpi .eq (IntOp.divsi .host (lo (ix1 t)) 4#32) (IntOp.divsi .host (hi (ix1 t)) 4#32) = 1#1 := Host.reduce_andi_all _ _ _ _ _ hs (ix1 t)
    rw [elo, ehi] at q
    exact grp_of_div ⟨(lo (ix1 t)).toNat, nlo _⟩ ⟨(hi (ix1 t)).toNat, nhi _⟩ q
  let A : Args :=
    { lo := fun t => ⟨(lo (ix1 t)).toNat, nlo _⟩
      hi := fun t => ⟨(hi (ix1 t)).toNat, nhi _⟩
      same := same
      valid := fun t => valid (ix1 t)
      xs := fun a l => (xs (ix2 a l)).toReal
      g := fun d => (g (ix2 0 d)).toReal
      wrg := fun e d => (wrg (ix2 d e)).toReal
      brg := fun e => (brg (ix1 e)).toReal
      wre := fun e d => (wre (ix2 d e)).toReal
      bre := fun e => (bre (ix1 e)).toReal
      wg := fun e d f => wg (ix3 e d f)
      wu := fun e d f => wu (ix3 e d f)
      wd := fun e f d => wd (ix3 e f d) }
  exact ⟨A,
    { lo := fun t => elo _
      hi := fun t => ehi _
      valid := fun t => rfl
      xs := fun a l => real_of_lt (Host.reduce_andi_all _ _ _ _ _ f3 (ix2 a l))
      g := fun d => real_of_lt (Host.reduce_andi_all _ _ _ _ _ f4 (ix2 0 d))
      wrg := fun d e => real_of_lt (Host.reduce_andi_all _ _ _ _ _ f5 (ix2 d e))
      brg := fun e => real_of_lt (Host.reduce_andi_all _ _ _ _ _ f6 (ix1 e))
      wre := fun d e => real_of_lt (Host.reduce_andi_all _ _ _ _ _ f7 (ix2 d e))
      bre := fun e => real_of_lt (Host.reduce_andi_all _ _ _ _ _ f8 (ix1 e))
      wg := fun _ _ _ => rfl
      wu := fun _ _ _ => rfl
      wd := fun _ _ _ => rfl }⟩

end Cert.Experts

end
-- ==== Proof.Experts.RefRow.lean ====
/- The reference's result at an index, for arguments held by its arrays: the normalised rows, the two softmaxes, the gates that
   are zero at every other expert, the sum over all experts. -/
module

public import proofs.«01_k».proof.Proof.Gen.MoeRefIdeal.Read
public import proofs.«01_k».proof.Proof.Experts.Args

@[expose] public section

set_option maxRecDepth 16384

noncomputable section

namespace Cert.MoeRefIdeal.Ref

open Cert.MoeRefIdeal Cert.MoeRefIdeal.Gen Cert.MoeRefIdeal.Read Cert.Experts Idealize.ShloMosaic Idealize.ShloMosaic.TcCoe Idealize.ShloMosaic.Pointwise

variable {x0 x1 x2 : IVec S152 32} {x3 : FVec Ideal S311296x128 .f32} {x4 : FVec Ideal S1x1024 .f32} {x5 : FVec Ideal S1024x4 .f32}
  {x6 : FVec Ideal S4 .f32} {x7 : FVec Ideal S1024x16 .f32} {x8 : FVec Ideal S16 .f32} {x9 x10 : FVec Ideal S16x1024x512 .f32}
  {x11 : FVec Ideal S16x512x1024 .f32} {A : Args} (H : A.Held x0 x1 x2 x3 x4 x5 x6 x7 x8 x9 x10 x11)

include H

theorem v0 (t : Fin 152) (r : Fin 256) (d : Fin 1024) : val_main_v0 (F := Ideal) x3 (ix3 t r d) = (A.x t r d : EReal) := by
  pointwise [val_main_v0]
  exact H.xs _ _

/-- The normalised rows. -/
theorem v13 (t : Fin 152) (r : Fin 256) (d : Fin 1024) : val_main_v13 (F := Ideal) x3 x4 (ix3 t r d) = (A.h t r d : EReal) := by
  pointwise [val_main_v13, val_main_v12, val_main_v11, val_main_v10, val_main_v9, val_main_v8, val_main_v7, val_main_v6, val_main_cst_1, val_main_v5, val_main_v4, val_main_cst_0, val_main_v3, val_main_v2, val_main_cst, val_main_v1]
  simp only [v0 H, H.g, Consts.ofBits_1024, Consts.ofBits_eps]
  exact nrm_eq _ _ _

/-- The groups' logits. -/
theorem v17 (t : Fin 152) (r : Fin 256) (e : Fin 4) : val_main_v17 (F := Ideal) x3 x4 x5 x6 (ix3 t r e) = (A.lg t r e : EReal) := by
  pointwise [val_main_v17, val_main_v16, val_main_v15, val_main_v14]
  simp only [v13 H, H.wrg, H.brg]
  exact logit_eq _ _ _

/-- The experts' logits. -/
theorem v32 (t : Fin 152) (r : Fin 256) (e : Fin 16) : val_main_v32 (F := Ideal) x3 x4 x7 x8 (ix3 t r e) = (A.le t r e : EReal) := by
  pointwise [val_main_v32, val_main_v31, val_main_v30, val_main_v29]
  simp only [v13 H, H.wre, H.bre]
  exact logit_eq _ _ _

/-- The groups' probabilities. -/
theorem v28 (t : Fin 152) (r : Fin 256) (e : Fin 4) : val_main_v28 (F := Ideal) x3 x4 x5 x6 (ix3 t r e) = (soft (A.lg t r) e : EReal) := by
  pointwise [val_main_v28, val_main_v27, val_main_v26, val_main_v25, val_main_v24, val_main_v23, val_main_v22, val_main_v21, val_main_v20, val_main_v19, val_main_v18, val_main_cst_2, val_main_cst_3, val_main_cst_4]
  simp only [v17 H, Consts.ofBits_ninf]
  obtain ⟨M, hM⟩ := Softmax.fold_max_fin (by norm_num) (A.lg t r)
  simp only [hM, max_eq_right bot_le]
  exact soft_shift _ _ _

/-- The probabilities of a group's experts. -/
theorem v44 (t : Fin 152) (r : Fin 256) (g j : Fin 4) : val_main_v44 (F := Ideal) x3 x4 x7 x8 (ix4 t r g j)
    = (soft (fun j : Fin 4 => A.le t r ⟨g.val * 4 + j.val, by omega⟩) j : EReal) := by
  pointwise [val_main_v44, val_main_v43, val_main_v42, val_main_v41, val_main_v40, val_main_v39, val_main_v38, val_main_v37, val_main_v36, val_main_v35, val_main_v34, val_main_cst_5, val_main_cst_6, val_main_cst_7, val_main_v33]
  simp only [v32 H, Consts.ofBits_ninf]
  obtain ⟨M, hM⟩ := Softmax.fold_max_fin (by norm_num) (fun j : Fin 4 => A.le t r ⟨g.val * 4 + j.val, by omega⟩)
  simp only [hM, max_eq_right bot_le]
  exact soft_shift _ _ _

theorem v45 (t : Fin 152) (r : Fin 256) (e : Fin 16) : val_main_v45 (F := Ideal) x3 x4 x7 x8 (ix3 t r e)
    = (soft (fun j : Fin 4 => A.le t r ⟨(grp e).val * 4 + j.val, by omega⟩) ⟨e.val % 4, Nat.mod_lt _ (by decide)⟩ : EReal) := by
  pointwise [val_main_v45]
  exact v44 H t r (grp e) _

theorem v48 (t : Fin 152) (r : Fin 256) (e : Fin 16) : val_main_v48 (F := Ideal) x3 x4 x5 x6 (ix3 t r e) = (soft (A.lg t r) (grp e) : EReal) := by
  pointwise [val_main_v48, val_main_v47, val_main_v46]
  exact v28 H t r (grp e)

omit H in
theorem select_oneHot (a e : Fin 16) : Scalar.select (IntOp.cmpi .eq (BitVec.ofNat 32 a.val) (BitVec.ofNat 32 e.val))
    (1 : EReal) 0 = if a = e then (1 : EReal) else 0 := by
  have h : ∀ a e : Fin 16, IntOp.cmpi .eq (BitVec.ofNat 32 a.val) (BitVec.ofNat 32 e.val) = if a = e then 1#1 else 0#1 := by decide
  rw [h]
  by_cases hx : a = e
  · rw [if_pos hx, if_pos hx, sel1]
  · rw [if_neg hx, if_neg hx, sel0]

/-- The one-hot row of the tile's first expert. -/
theorem v56 (t : Fin 152) (e : Fin 16) : val_main_v56 (F := Ideal) x0 (ix3 t 0 e) = if A.lo t = e then (1 : EReal) else 0 := by
  pointwise [val_main_v56, val_main_v55, val_main_v54, val_main_v53, val_main_v52, val_main_v51, val_main_v50, val_main_v49, val_main_call0_v0, val_main_call0_v1, val_main_cst_8, val_main_cst_9]
  rw [H.lo]
  exact select_oneHot _ _

/-- The one-hot row of the tile's second expert. -/
theorem v63 (t : Fin 152) (e : Fin 16) : val_main_v63 (F := Ideal) x1 (ix3 t 0 e) = if A.hi t = e then (1 : EReal) else 0 := by
  pointwise [val_main_v63, val_main_v62, val_main_v61, val_main_v60, val_main_v59, val_main_v58, val_main_v57, val_main_v49, val_main_call1_v0, val_main_call1_v1, val_main_cst_10, val_main_cst_11]
  rw [H.hi]
  exact select_oneHot _ _

omit H in
theorem sum_pick (a : Fin 16) (f : Fin 16 → EReal) : (∑ e, (if a = e then (1 : EReal) else 0) * f e) = f a := by
  simp only [ite_mul, one_mul, zero_mul]
  rw [Finset.sum_ite_eq, if_pos (Finset.mem_univ _)]

theorem v68 (t : Fin 152) (r : Fin 256) : val_main_v68 (F := Ideal) x0 x3 x4 x5 x6 (ix3 t r 0) = (A.p t r : EReal) := by
  pointwise [val_main_v68, val_main_v67, val_main_v66, val_main_v65, val_main_v64, val_main_cst_12]
  simp only [id, v56 H, v48 H]
  exact sum_pick _ _

theorem v73 (t : Fin 152) (r : Fin 256) : val_main_v73 (F := Ideal) x0 x3 x4 x7 x8 (ix3 t r 0)
    = (soft (fun j : Fin 4 => A.le t r ⟨(grp (A.lo t)).val * 4 + j.val, by omega⟩) ⟨(A.lo t).val % 4, Nat.mod_lt _ (by decide)⟩ : EReal) := by
  pointwise [val_main_v73, val_main_v72, val_main_v71, val_main_v70, val_main_v69, val_main_cst_13]
  simp only [id, v56 H, v45 H]
  exact sum_pick (A.lo t) (fun e => (soft (fun j : Fin 4 => A.le t r ⟨(grp e).val * 4 + j.val, by omega⟩) ⟨e.val % 4, Nat.mod_lt _ (by decide)⟩ : EReal))

theorem v78 (t : Fin 152) (r : Fin 256) : val_main_v78 (F := Ideal) x1 x3 x4 x7 x8 (ix3 t r 0)
    = (soft (fun j : Fin 4 => A.le t r ⟨(grp (A.lo t)).val * 4 + j.val, by omega⟩) ⟨(A.hi t).val % 4, Nat.mod_lt _ (by decide)⟩ : EReal) := by
  pointwise [val_main_v78, val_main_v77, val_main_v76, val_main_v75, val_main_v74, val_main_cst_14]
  simp only [id, v63 H, v45 H]
  refine (sum_pick (A.hi t) (fun e => (soft (fun j : Fin 4 => A.le t r ⟨(grp e).val * 4 + j.val, by omega⟩) ⟨e.val % 4, Nat.mod_lt _ (by decide)⟩ : EReal))).trans ?_
  simp only [A.same t]

omit H in
theorem le_lo (t : Fin 152) (r : Fin 256) : A.le t r ⟨(grp (A.lo t)).val * 4 + (A.lo t).val % 4, by have := (grp (A.lo t)).isLt; omega⟩ = A.le t r (A.lo t) :=
  congrArg (A.le t r) (Fin.ext (show (A.lo t).val / 4 * 4 + (A.lo t).val % 4 = (A.lo t).val by omega))

omit H in
theorem le_hi (t : Fin 152) (r : Fin 256) : A.le t r ⟨(grp (A.lo t)).val * 4 + (A.hi t).val % 4, by have := (grp (A.lo t)).isLt; omega⟩ = A.le t r (A.hi t) := by
  have h : (A.hi t).val / 4 = (A.lo t).val / 4 := congrArg Fin.val (A.same t)
  exact congrArg (A.le t r) (Fin.ext (show (A.lo t).val / 4 * 4 + (A.hi t).val % 4 = (A.hi t).val by omega))

/-- The gate of every expert: zero but at the tile's two. -/
theorem v93 (t : Fin 152) (r : Fin 256) (e : Fin 16) : val_main_v93 (F := Ideal) x0 x1 x3 x4 x5 x6 x7 x8 (ix3 t r e)
    = (A.glo t r : EReal) * (if A.lo t = e then 1 else 0) + (A.ghi t r : EReal) * (if A.hi t = e then 1 else 0) := by
  pointwise [val_main_v93, val_main_v92, val_main_v91, val_main_v90, val_main_v89, val_main_v88, val_main_v87, val_main_v86, val_main_v85, val_main_v84, val_main_v83, val_main_v82, val_main_v81, val_main_v80, val_main_v79]
  simp only [id]
  rw [v56 H, v63 H, v68 H, v73 H, v78 H, gate_soft, gate_soft', le_lo, le_hi]
  rfl

/-- Every expert's inner activations. -/
theorem v97 (t : Fin 152) (r : Fin 256) (e : Fin 16) (f : Fin 512) : val_main_v97 (F := Ideal) x3 x4 x9 x10 (ix4 t r e f) = A.act t r e f := by
  pointwise [val_main_v97, val_main_v96, val_main_v95, val_main_call2_v5, val_main_call2_v4, val_main_call2_v3, val_main_call2_v2, val_main_call2_v1, val_main_call2_v0, val_main_call2_cst, val_main_call2_cst_0, val_main_v94]
  simp only [v13 H, H.wg, H.wu, Consts.ofBits_one, EReal.coe_one]
  rfl

/-- Every expert's feed-forward. -/
theorem v99 (t : Fin 152) (r : Fin 256) (e : Fin 16) (d : Fin 1024) : val_main_v99 (F := Ideal) x3 x4 x9 x10 x11 (ix4 t r e d) = A.ffn t r e d := by
  pointwise [val_main_v99, val_main_v98]
  simp only [v97 H, H.wd]
  exact Finset.sum_congr rfl fun f _ => mul_comm _ _

theorem v104 (t : Fin 152) (r : Fin 256) (d : Fin 1024) : val_main_v104 (F := Ideal) x0 x1 x3 x4 x5 x6 x7 x8 x9 x10 x11 (ix3 t r d) = A.y t r d := by
  pointwise [val_main_v104, val_main_v103, val_main_v102, val_main_v101, val_main_v100, val_main_cst_15]
  simp only [v0 H, v93 H, v99 H]
  exact combine _ (fun e => A.ffn t r e d) (A.glo_nonneg t r) (A.ghi_nonneg t r) _ _

theorem v108 (t : Fin 152) (r : Fin 256) (d : Fin 1024) : val_main_v108 (F := Ideal) x0 x1 x2 x3 x4 x5 x6 x7 x8 x9 x10 x11 (ix3 t r d) = A.out t r d := by
  pointwise [val_main_v108, val_main_call3_v2, val_main_call3_v1, val_main_call3_v0, val_main_cst_16, val_main_v107, val_main_v106, val_main_v105, val_main_c]
  rw [v104 H, H.valid]
  unfold Scalar.select Args.out
  refine if_congr ?_ rfl ?_
  · rw [← show IntOp.cmpi .sgt (A.valid t) 0#32 = 1#1 ↔ 0 < (A.valid t).toInt from by
      rw [IntOp.cmpi_sgt, show (0#32 : BitVec 32).toInt = 0 from by decide]]
    rfl
  · first | rfl | exact Consts.ofBits_zero

/-- The reference's whole result. -/
theorem result_eq : val_main_v109 (F := Ideal) x0 x1 x2 x3 x4 x5 x6 x7 x8 x9 x10 x11 = A.arr := by
  funext j
  idx_vars j
  pointwise [val_main_v109]
  rw [v108 H]
  rfl

end Cert.MoeRefIdeal.Ref

end
-- ==== Proof.Experts.Value.lean ====
/- The value claim of the expert layer's call: with exact arithmetic the kernel's whole result is the reference's. -/
module

public import proofs.«01_k».proof.Proof.Experts.Array
public import proofs.«01_k».proof.Proof.Experts.Frames
public import proofs.«01_k».proof.Proof.Experts.Routed
public import proofs.«01_k».proof.Proof.Experts.RefRow

@[expose] public section

set_option maxRecDepth 16384

noncomputable section

namespace Cert.MoeIdeal.Own

open Cert.MoeIdeal.Gen Cert.Experts
open Idealize.ShloMosaic Idealize.ShloMosaic.TcCoe Idealize.SL.Sem

/-- After the run the result's buffer holds what the grid's points stored. -/
theorem result (m : (ℓ : Loc nD τ sig) → Buf (Elt Ideal) ℓ) (ρ : Dev nD → PrngReg) (hO : Ok m) (hR : Ranged m) :
    θ_run defs (onTc (τ := τ) (main (F := Ideal))) ⟨m, fun _ => 0, ρ⟩ (fun r => ∀ c : Dev nD,
      r.2.mem ((c.tc : Thread nD τ).loc main_v10) = (dats m hO 0 c).arrAt 8 (cfgM m hO).N) :=
  (θ_run defs _ _).mono (fun _ h c => (h c).1 8) (run_main m ρ hO hR)

set_option maxHeartbeats 4000000 in
/-- The idealized program's frame under the stronger precondition. -/
theorem frame_routed : Cert.quiescent_MoeIdeal_pre_moe_routed := fun m ρ h =>
  have hr := inRange_tbl m (exists_args (h 0)).1
  frame m ρ (ok_of_inRange m hr) (ranged_of_inRange m hr)

/-- The reference runs and leaves its arguments and the semaphores as they were. -/
theorem frame_ref : Cert.quiescent_MoeRefIdeal := fun m ρ _ =>
  (θ_run Cert.MoeRefIdeal.defs _ _).mono (fun r h => ⟨fun c => (h c).2,
      Idealize.ShloMosaic.sem_eq_zero_of_no_sems (by decide) r.2⟩)
    (Cert.MoeRefIdeal.Value.run (F := Ideal) m ρ)

set_option maxHeartbeats 4000000 in
/-- With exact arithmetic the kernel's result is the reference's, for routed tables and finite arguments. -/
theorem algebraic : Cert.algebraic_MoeIdeal_MoeRefIdeal_pre_moe_routed := by
  intro m ρ m' ρ' hpre hagree
  have hr := inRange_tbl m (exists_args (hpre 0)).1
  have hO := ok_of_inRange m hr
  have hR := ranged_of_inRange m hr
  refine ⟨fun c => (dats m hO 0 c).arrAt 8 (cfgM m hO).N, ?_, ?_⟩
  · exact (θ_run defs _ _).mono (fun _ h c => ⟨h.1 c, h.2 c⟩) (θ_run_and (result m ρ hO hR) (unchanged m ρ hO hR))
  · refine (θ_run Cert.MoeRefIdeal.defs _ _).mono (fun _ h c => ⟨(h c).1.trans ?_, (h c).2⟩)
      (Cert.MoeRefIdeal.Value.run (F := Ideal) m' ρ')
    obtain ⟨A, H⟩ := (exists_args (hpre c)).2
    obtain ⟨e0, e1, e2, e3, e4, e5, e6, e7, e8, e9, e10, e11⟩ := hagree c
    rw [Cert.MoeRefIdeal.Read.val_main_v109_eq m' c, e0, e1, e2, e3, e4, e5, e6, e7, e8, e9, e10, e11]
    exact (Cert.MoeRefIdeal.Ref.result_eq H).trans (final_eq A m hO c H hR).symm

end Cert.MoeIdeal.Own

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnIdeal.Value
public import proofs.«01_k».proof.Proof.Gen.AttnRefIdeal.Read
public import proofs.«01_k».proof.Proof.Gen.Pre_attn_finite
public import proofs.«01_k».proof.Proof.Gen.Moe
public import proofs.«01_k».proof.Proof.Gen.Moe.Skeleton
public import proofs.«01_k».proof.Proof.Gen.Moe.Launch
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeRefIdeal
public import proofs.«01_k».proof.Proof.Gen.MoeRefIdeal.Read
public import proofs.«01_k».proof.Proof.Gen.Pre_moe_range
public import proofs.«01_k».proof.Proof.Gen.Pre_moe_routed
public import proofs.«01_k».proof.Proof.Finite
public import proofs.«01_k».proof.Proof.RefArray
public import proofs.«01_k».proof.Proof.Experts.Value
public import Idealize.ShloMosaic.Adequacy
public import Idealize.ShloMosaic.Init

@[expose] public section

noncomputable section

namespace Cert.Proof

open Idealize.ShloMosaic Idealize.ShloMosaic.TcCoe Idealize.SL.Sem Cert.Attn

/-- The reference runs and leaves its arguments and the semaphores as they were. -/
theorem frame_ref : Cert.quiescent_AttnRefIdeal := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)

/-- The one named constant denotes `1/(8·log 2)`. -/
theorem preserves : Cert.preserves_Attn_AttnIdeal :=
  IdealRules.named_const.statement Cert.AttnIdeal.κ "scale" .f32 0x3E38AA3B#32 (((8 * (Real.log 2))⁻¹ : ℝ) : EReal) rfl

/-- With exact arithmetic the kernel's result is the reference's, for finite queries, keys and values. -/
theorem algebraic : Cert.algebraic_AttnIdeal_AttnRefIdeal_pre_attn_finite := by
  intro m ρ m' ρ' hpre hagree
  refine ⟨_, Cert.AttnIdeal.Value.run_blocks (F := Ideal) m ρ, ?_⟩
  refine (θ_run Cert.AttnRefIdeal.defs _ _).mono (fun _ h c => ⟨(h c).1.trans ?_, (h c).2⟩)
    (Cert.AttnRefIdeal.Value.run (F := Ideal) m' ρ')
  obtain ⟨hq, hk, hv⟩ := Cert.Pre_attn_finite.Finite.finite _ _ _ _ (hpre c)
  obtain ⟨e0, e1, e2, e3⟩ := hagree c
  rw [Cert.AttnRefIdeal.Read.val_main_v31_eq m' c, e0, e1, e2, e3,
    Cert.AttnIdeal.Block.final_eq m c _ _ _ _ hq hk hv rfl, ← Cert.AttnRefIdeal.Ref.result_eq]
  have eq := funext hq
  have ek := funext hk
  have ev := funext hv
  exact congr (congr (congr (congrArg (fun a b d e => Cert.AttnRefIdeal.Read.val_main_v31 (F := Ideal) a b d e) eq) ek) ev) rfl

theorem claim : Cert.Claim := ⟨Cert.Attn.Gen.facts, Cert.AttnIdeal.Gen.facts, Cert.AttnRefIdeal.Gen.facts,
  Cert.Moe.Gen.facts, Cert.MoeIdeal.Gen.facts, Cert.MoeRefIdeal.Gen.facts,
  Cert.Pre_attn_finite.Gen.facts, Cert.Pre_moe_range.Gen.facts, Cert.Pre_moe_routed.Gen.facts,
  fun m ρ _ => Cert.Attn.Gen.frame m ρ,
  fun m ρ _ => Cert.AttnIdeal.Gen.frame m ρ,
  fun m ρ _ => Cert.AttnIdeal.Gen.frame m ρ,
  fun m ρ _ => frame_ref m ρ trivial,
  fun m ρ _ => frame_ref m ρ trivial,
  Cert.MoeIdeal.Own.frame_printed,
  Cert.MoeIdeal.Own.frame_ideal,
  Cert.MoeIdeal.Own.frame_routed,
  Cert.MoeIdeal.Own.frame_ref,
  fun m ρ _ => Cert.MoeIdeal.Own.frame_ref m ρ trivial,
  preserves, algebraic,
  trivial,
  Cert.MoeIdeal.Own.algebraic⟩

end Cert.Proof

end
